-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)) (v3 : (c : Dev Cert.Kernel2Ideal.nD) → Buf (Elt Ideal) ((c.tc : Thread Cert.Kernel2Ideal.nD Cert.Kernel2Ideal.τ).loc Cert.Kernel2Ideal.main_v19_3)) (v4 : (c : Dev Cert.Kernel2Ideal.nD) → Buf (Elt Ideal) ((c.tc : Thread Cert.Kernel2Ideal.nD Cert.Kernel2Ideal.τ).loc Cert.Kernel2Ideal.main_v19_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_v19_3) = v3 c
          ∧ r.2.mem ((c.tc : Thread Cert.Kernel2Ideal.nD Cert.Kernel2Ideal.τ).loc Cert.Kernel2Ideal.main_v19_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v61) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v62) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_v5) = v2 c
          ∧ r.2.mem ((c.tc : Thread Cert.Reference3Ideal.nD Cert.Reference3Ideal.τ).loc Cert.Reference3Ideal.main_v6) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S2x8192x768 : Shape := ⟨3, ![2, 8192, 768]⟩
abbrev S5x512x512 : Shape := ⟨3, ![5, 512, 512]⟩
abbrev S_ : Shape := ⟨0, ![]⟩
abbrev S1x512x128 : Shape := ⟨3, ![1, 512, 128]⟩
abbrev S1x8192x128 : Shape := ⟨3, ![1, 8192, 128]⟩
abbrev S1024x128 : Shape := ⟨2, ![1024, 128]⟩
abbrev S512x128 : Shape := ⟨2, ![512, 128]⟩
abbrev S1024x512 : Shape := ⟨2, ![1024, 512]⟩
abbrev S2x512x512 : Shape := ⟨3, ![2, 512, 512]⟩
abbrev S1x512x512 : Shape := ⟨3, ![1, 512, 512]⟩
abbrev S512x512 : Shape := ⟨2, ![512, 512]⟩
abbrev S1024 : Shape := ⟨1, ![1024]⟩
abbrev S1024x1 : Shape := ⟨2, ![1024, 1]⟩

abbrev nBuf : Space → Nat
  | .hbm => 70
  | .vmem => 13
  | .smem => 0
  | _ => 0

abbrev bufTy : (tb : Table) → Fin (tcTables nBuf tb) → BufTy
  | .hbm, ⟨0, _⟩ => ⟨S2x8192x768, .f32⟩
  | .hbm, ⟨1, _⟩ => ⟨S2x8192x768, .f32⟩
  | .hbm, ⟨2, _⟩ => ⟨S2x8192x768, .f32⟩
  | .hbm, ⟨3, _⟩ => ⟨S2x8192x768, .bf16⟩
  | .hbm, ⟨4, _⟩ => ⟨S2x8192x768, .bf16⟩
  | .hbm, ⟨5, _⟩ => ⟨S5x512x512, .i32⟩
  | .hbm, ⟨6, _⟩ => ⟨S_, .i32⟩
  | .hbm, ⟨7, _⟩ => ⟨S5x512x512, .i32⟩
  | .hbm, ⟨8, _⟩ => ⟨S5x512x512, .i32⟩
  | .hbm, ⟨9, _⟩ => ⟨S5x512x512, .i32⟩
  | .hbm, ⟨10, _⟩ => ⟨S5x512x512, .i32⟩
  | .hbm, ⟨11, _⟩ => ⟨S5x512x512, .i32⟩
  | .hbm, ⟨12, _⟩ => ⟨S5x512x512, .i32⟩
  | .hbm, ⟨13, _⟩ => ⟨S_, .i32⟩
  | .hbm, ⟨14, _⟩ => ⟨S5x512x512, .i32⟩
  | .hbm, ⟨15, _⟩ => ⟨S_, .i32⟩
  | .hbm, ⟨16, _⟩ => ⟨S5x512x512, .i32⟩
  | .hbm, ⟨17, _⟩ => ⟨S5x512x512, .i1⟩
  | .hbm, ⟨18, _⟩ => ⟨S_, .i32⟩
  | .hbm, ⟨19, _⟩ => ⟨S5x512x512, .i32⟩
  | .hbm, ⟨20, _⟩ => ⟨S5x512x512, .i1⟩
  | .hbm, ⟨21, _⟩ => ⟨S5x512x512, .i1⟩
  | .hbm, ⟨22, _⟩ => ⟨S_, .i32⟩
  | .hbm, ⟨23, _⟩ => ⟨S5x512x512, .i32⟩
  | .hbm, ⟨24, _⟩ => ⟨S5x512x512, .i32⟩
  | .hbm, ⟨25, _⟩ => ⟨S_, .i32⟩
  | .hbm, ⟨26, _⟩ => ⟨S5x512x512, .i32⟩
  | .hbm, ⟨27, _⟩ => ⟨S5x512x512, .i1⟩
  | .hbm, ⟨28, _⟩ => ⟨S5x512x512, .i1⟩
  | .hbm, ⟨29, _⟩ => ⟨S5x512x512, .i32⟩
  | .hbm, ⟨30, _⟩ => ⟨S5x512x512, .i32⟩
  | .hbm, ⟨31, _⟩ => ⟨S_, .i32⟩
  | .hbm, ⟨32, _⟩ => ⟨S5x512x512, .i32⟩
  | .hbm, ⟨33, _⟩ => ⟨S5x512x512, .i1⟩
  | .hbm, ⟨34, _⟩ => ⟨S_, .i32⟩
  | .hbm, ⟨35, _⟩ => ⟨S5x512x512, .i32⟩
  | .hbm, ⟨36, _⟩ => ⟨S5x512x512, .i1⟩
  | .hbm, ⟨37, _⟩ => ⟨S5x512x512, .i1⟩
  | .hbm, ⟨38, _⟩ => ⟨S_, .i32⟩
  | .hbm, ⟨39, _⟩ => ⟨S5x512x512, .i32⟩
  | .hbm, ⟨40, _⟩ => ⟨S5x512x512, .i32⟩
  | .hbm, ⟨41, _⟩ => ⟨S_, .i32⟩
  | .hbm, ⟨42, _⟩ => ⟨S5x512x512, .i32⟩
  | .hbm, ⟨43, _⟩ => ⟨S5x512x512, .i1⟩
  | .hbm, ⟨44, _⟩ => ⟨S5x512x512, .i1⟩
  | .hbm, ⟨45, _⟩ => ⟨S5x512x512, .i32⟩
  | .hbm, ⟨46, _⟩ => ⟨S5x512x512, .i32⟩
  | .hbm, ⟨47, _⟩ => ⟨S_, .i32⟩
  | .hbm, ⟨48, _⟩ => ⟨S5x512x512, .i32⟩
  | .hbm, ⟨49, _⟩ => ⟨S5x512x512, .i1⟩
  | .hbm, ⟨50, _⟩ => ⟨S_, .i32⟩
  | .hbm, ⟨51, _⟩ => ⟨S5x512x512, .i32⟩
  | .hbm, ⟨52, _⟩ => ⟨S5x512x512, .i1⟩
  | .hbm, ⟨53, _⟩ => ⟨S5x512x512, .i1⟩
  | .hbm, ⟨54, _⟩ => ⟨S_, .i32⟩
  | .hbm, ⟨55, _⟩ => ⟨S5x512x512, .i32⟩
  | .hbm, ⟨56, _⟩ => ⟨S5x512x512, .i32⟩
  | .hbm, ⟨57, _⟩ => ⟨S_, .i32⟩
  | .hbm, ⟨58, _⟩ => ⟨S5x512x512, .i32⟩
  | .hbm, ⟨59, _⟩ => ⟨S5x512x512, .i1⟩
  | .hbm, ⟨60, _⟩ => ⟨S5x512x512, .i1⟩
  | .hbm, ⟨61, _⟩ => ⟨S5x512x512, .i32⟩
  | .hbm, ⟨62, _⟩ => ⟨S5x512x512, .i32⟩
  | .hbm, ⟨63, _⟩ => ⟨S5x512x512, .f32⟩
  | .hbm, ⟨64, _⟩ => ⟨S5x512x512, .f32⟩
  | .hbm, ⟨65, _⟩ => ⟨S_, .f32⟩
  | .hbm, ⟨66, _⟩ => ⟨S5x512x512, .f32⟩
  | .hbm, ⟨67, _⟩ => ⟨S5x512x512, .f32⟩
  | .hbm, ⟨68, _⟩ => ⟨S5x512x512, .f32⟩
  | .hbm, ⟨69, _⟩ => ⟨S2x8192x768, .bf16⟩
  | .local _ .vmem, ⟨0, _⟩ => ⟨S1x512x128, .f32⟩
  | .local _ .vmem, ⟨1, _⟩ => ⟨S1x512x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S5x512x512, .f32⟩
  | .local _ .vmem, ⟨7, _⟩ => ⟨S1x512x128, .bf16⟩
  | .local _ .vmem, ⟨8, _⟩ => ⟨S1x512x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_11 : Ref sig .tc := ⟨.hbm, 54, rfl⟩
abbrev main_v39 : Ref sig .tc := ⟨.hbm, 55, rfl⟩
abbrev main_v40 : Ref sig .tc := ⟨.hbm, 56, rfl⟩
abbrev main_c_12 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 6, 16], ![false, false, false]⟩

@[reducible] def k0_t1_loop (i : grid0.Coords) : Scf.Loop 32 :=
  let arg2 : BitVec 32 := BitVec.ofNat 32 (i 2).val
  let c4_i32 : BitVec 32 := 4#32
  let v29 : BitVec 32 := Scalar.subi arg2 c4_i32
  let c0_i32 : BitVec 32 := 0#32
  let v30 : BitVec 32 := Scalar.maxsi v29 c0_i32
  let c1_i32 : BitVec 32 := 1#32
  let v31 : BitVec 32 := Scalar.addi arg2 c1_i32
  let v32 : BitVec 32 := Scalar.subi v31 v30
  let c1_i32_16 : BitVec 32 := 1#32
  let v34 : BitVec 32 := Scalar.divsi v32 c1_i32_16
  let v35 : BitVec 32 := Scalar.muli v34 c1_i32_16
  let v36 : BitVec 32 := Scalar.addi v30 v35
  let c1_i32_17 : BitVec 32 := 1#32
  ⟨v30, v36, c1_i32_17⟩
def k0_mult1 (i : grid0.Coords) (k0_t1 : Fin (k0_t1_loop i).trips) : BitVec 32 :=
  let arg2 : BitVec 32 := BitVec.ofNat 32 (i 2).val
  let c4_i32 : BitVec 32 := 4#32
  let v29 : BitVec 32 := Scalar.subi arg2 c4_i32
  let c0_i32 : BitVec 32 := 0#32
  let v30 : BitVec 32 := Scalar.maxsi v29 c0_i32
  let c1_i32_17 : BitVec 32 := 1#32
  let arg12 : BitVec 32 := Scf.iv v30 c1_i32_17 k0_t1
  let c512_i32 : BitVec 32 := 512#32
  let v50 : BitVec 32 := Scalar.muli arg12 c512_i32
  v50
def k0_off1 (i : grid0.Coords) (k0_t1 : Fin (k0_t1_loop i).trips) : Fin 3 → Nat :=
  let c0_27 : Index := 0#32
  let arg2 : BitVec 32 := BitVec.ofNat 32 (i 2).val
  let c4_i32 : BitVec 32 := 4#32
  let v29 : BitVec 32 := Scalar.subi arg2 c4_i32
  let c0_i32 : BitVec 32 := 0#32
  let v30 : BitVec 32 := Scalar.maxsi v29 c0_i32
  let c1_i32_17 : BitVec 32 := 1#32
  let arg12 : BitVec 32 := Scf.iv v30 c1_i32_17 k0_t1
  let c512_i32 : BitVec 32 := 512#32
  let v50 : BitVec 32 := Scalar.muli arg12 c512_i32
  let v51 : BitVec 32 := v50
  let v52 : Index := Scalar.indexCast v51
  let c0_28 : Index := 0#32
  ![0, v52.toNat, 0]
def k0_off2 (i : grid0.Coords) (k0_t1 : Fin (k0_t1_loop i).trips) : Fin 3 → Nat :=
  let arg2 : BitVec 32 := BitVec.ofNat 32 (i 2).val
  let c4_i32 : BitVec 32 := 4#32
  let v29 : BitVec 32 := Scalar.subi arg2 c4_i32
  let c0_i32 : BitVec 32 := 0#32
  let v30 : BitVec 32 := Scalar.maxsi v29 c0_i32
  let c1_i32_17 : BitVec 32 := 1#32
  let arg12 : BitVec 32 := Scf.iv v30 c1_i32_17 k0_t1
  let v61 : BitVec 32 := Scalar.subi arg2 arg12
  let v62 : Index := Scalar.indexCast v61
  let c0_34 : Index := 0#32
  let c0_35 : Index := 0#32
  ![v62.toNat, 0, 0]
@[reducible] def k0_t2_loop (i : grid0.Coords) : Scf.Loop 32 :=
  let arg2 : BitVec 32 := BitVec.ofNat 32 (i 2).val
  let c4_i32 : BitVec 32 := 4#32
  let v29 : BitVec 32 := Scalar.subi arg2 c4_i32
  let c0_i32 : BitVec 32 := 0#32
  let v30 : BitVec 32 := Scalar.maxsi v29 c0_i32
  let c1_i32 : BitVec 32 := 1#32
  let v31 : BitVec 32 := Scalar.addi arg2 c1_i32
  let v32 : BitVec 32 := Scalar.subi v31 v30
  let c1_i32_16 : BitVec 32 := 1#32
  let v34 : BitVec 32 := Scalar.divsi v32 c1_i32_16
  let v35 : BitVec 32 := Scalar.muli v34 c1_i32_16
  let v36 : BitVec 32 := Scalar.addi v30 v35
  let v33 : BitVec 32 := Scalar.addi v30 v32
  let c1_i32_18 : BitVec 32 := 1#32
  ⟨v36, v33, c1_i32_18⟩
def k0_mult2 (i : grid0.Coords) (k0_t2 : Fin (k0_t2_loop i).trips) : BitVec 32 :=
  let arg2 : BitVec 32 := BitVec.ofNat 32 (i 2).val
  let c4_i32 : BitVec 32 := 4#32
  let v29 : BitVec 32 := Scalar.subi arg2 c4_i32
  let c0_i32 : BitVec 32 := 0#32
  let v30 : BitVec 32 := Scalar.maxsi v29 c0_i32
  let c1_i32 : BitVec 32 := 1#32
  let v31 : BitVec 32 := Scalar.addi arg2 c1_i32
  let v32 : BitVec 32 := Scalar.subi v31 v30
  let c1_i32_16 : BitVec 32 := 1#32
  let v34 : BitVec 32 := Scalar.divsi v32 c1_i32_16
  let v35 : BitVec 32 := Scalar.muli v34 c1_i32_16
  let v36 : BitVec 32 := Scalar.addi v30 v35
  let c1_i32_18 : BitVec 32 := 1#32
  let arg12 : BitVec 32 := Scf.iv v36 c1_i32_18 k0_t2
  let c512_i32 : BitVec 32 := 512#32
  let v50 : BitVec 32 := Scalar.muli arg12 c512_i32
  v50
def k0_off3 (i : grid0.Coords) (k0_t2 : Fin (k0_t2_loop i).trips) : Fin 3 → Nat :=
  let c0_27 : Index := 0#32
  let arg2 : BitVec 32 := BitVec.ofNat 32 (i 2).val
  let c4_i32 : BitVec 32 := 4#32
  let v29 : BitVec 32 := Scalar.subi arg2 c4_i32
  let c0_i32 : BitVec 32 := 0#32
  let v30 : BitVec 32 := Scalar.maxsi v29 c0_i32
  let c1_i32 : BitVec 32 := 1#32
  let v31 : BitVec 32 := Scalar.addi arg2 c1_i32
  let v32 : BitVec 32 := Scalar.subi v31 v30
  let c1_i32_16 : BitVec 32 := 1#32
  let v34 : BitVec 32 := Scalar.divsi v32 c1_i32_16
  let v35 : BitVec 32 := Scalar.muli v34 c1_i32_16
  let v36 : BitVec 32 := Scalar.addi v30 v35
  let c1_i32_18 : BitVec 32 := 1#32
  let arg12 : BitVec 32 := Scf.iv v36 c1_i32_18 k0_t2
  let c512_i32 : BitVec 32 := 512#32
  let v50 : BitVec 32 := Scalar.muli arg12 c512_i32
  let v51 : BitVec 32 := v50
  let v52 : Index := Scalar.indexCast v51
  let c0_28 : Index := 0#32
  ![0, v52.toNat, 0]
def k0_off4 (i : grid0.Coords) (k0_t2 : Fin (k0_t2_loop i).trips) : Fin 3 → Nat :=
  let arg2 : BitVec 32 := BitVec.ofNat 32 (i 2).val
  let c4_i32 : BitVec 32 := 4#32
  let v29 : BitVec 32 := Scalar.subi arg2 c4_i32
  let c0_i32 : BitVec 32 := 0#32
  let v30 : BitVec 32 := Scalar.maxsi v29 c0_i32
  let c1_i32 : BitVec 32 := 1#32
  let v31 : BitVec 32 := Scalar.addi arg2 c1_i32
  let v32 : BitVec 32 := Scalar.subi v31 v30
  let c1_i32_16 : BitVec 32 := 1#32
  let v34 : BitVec 32 := Scalar.divsi v32 c1_i32_16
  let v35 : BitVec 32 := Scalar.muli v34 c1_i32_16
  let v36 : BitVec 32 := Scalar.addi v30 v35
  let c1_i32_18 : BitVec 32 := 1#32
  let arg12 : BitVec 32 := Scf.iv v36 c1_i32_18 k0_t2
  let v61 : BitVec 32 := Scalar.subi arg2 arg12
  let v62 : Index := Scalar.indexCast v61
  let c0_34 : Index := 0#32
  let c0_35 : Index := 0#32
  ![v62.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S5x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S2x8192x768 : Shape := ⟨3, ![2, 8192, 768]⟩
abbrev S2x8192x12x64 : Shape := ⟨4, ![2, 8192, 12, 64]⟩
abbrev S2x12x8192x8192 : Shape := ⟨4, ![2, 12, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x8192x8192 : Shape := ⟨4, ![1, 1, 8192, 8192]⟩
abbrev S2x12x8192 : Shape := ⟨3, ![2, 12, 8192]⟩
abbrev S2x12x8192x1 : Shape := ⟨4, ![2, 12, 8192, 1]⟩
abbrev S2x12x8192x64 : Shape := ⟨4, ![2, 12, 8192, 64]⟩

abbrev nBuf : Space → Nat
  | .hbm => 149
  | .vmem => 0
  | .smem => 0
  | _ => 0

abbrev hbmTy0_0 (i : Nat) : BufTy := match i % 128 with
  | 0 => ⟨S2x8192x768, .f32⟩
  | 1 => ⟨S2x8192x768, .f32⟩
  | 2 => ⟨S2x8192x768, .f32⟩
  | 3 => ⟨S2x8192x12x64, .f32⟩
  | 4 => ⟨S2x8192x12x64, .f32⟩
  | 5 => ⟨S2x8192x12x64, .f32⟩
  | 6 => ⟨S2x12x8192x8192, .f32⟩
  | 7 => ⟨S_, .f32⟩
  | 8 => ⟨S2x12x8192x8192, .f32⟩
  | 9 => ⟨S2x12x8192x8192, .f32⟩
  | 10 => ⟨S8192, .i32⟩
  | 11 => ⟨S8192x1, .i32⟩
  | 12 => ⟨S8192, .i32⟩
  | 13 => ⟨S1x8192, .i32⟩
  | 14 => ⟨S8192x8192, .i32⟩
  | 15 => ⟨S8192x8192, .i32⟩
  | 16 => ⟨S8192x8192, .i32⟩
  | 17 => ⟨S_, .i32⟩
  | 18 => ⟨S8192x8192, .i32⟩
  | 19 => ⟨S8192x8192, .i1⟩
  | 20 => ⟨S_, .i32⟩
  | 21 => ⟨S8192x8192, .i32⟩
  | 22 => ⟨S8192x8192, .i1⟩
  | 23 => ⟨S8192x8192, .i1⟩
  | 24 => ⟨S_, .i32⟩
  | 25 => ⟨S8192x8192, .i32⟩
  | 26 => ⟨S8192x8192, .i32⟩
  | 27 => ⟨S_, .i32⟩
  | 28 => ⟨S8192x8192, .i32⟩
  | 29 => ⟨S8192x8192, .i1⟩
  | 30 => ⟨S8192x8192, .i1⟩
  | 31 => ⟨S1x1x8192x8192, .i1⟩
  | 32 => ⟨S_, .f32⟩
  | 33 => ⟨S_, .f32⟩
  | 34 => ⟨S2x12x8192x8192, .i1⟩
  | 35 => ⟨S2x12x8192x8192, .f32⟩
  | 36 => ⟨S2x12x8192x8192, .f32⟩
  | 37 => ⟨S_, .f32⟩
  | 38 => ⟨S2x12x8192, .f32⟩
  | 39 => ⟨S2x12x8192x1, .f32⟩
  | 40 => ⟨S2x12x8192x8192, .f32⟩
  | 41 => ⟨S2x12x8192x8192, .f32⟩
  | 42 => ⟨S2x12x8192x8192, .f32⟩
  | 43 => ⟨S_, .f32⟩
  | 44 => ⟨S2x12x8192, .f32⟩
  | 45 => ⟨S2x12x8192x64, .f32⟩
  | 46 => ⟨S2x12x8192x1, .f32⟩
  | 47 => ⟨S2x12x8192x64, .f32⟩
  | 48 => ⟨S2x12x8192x64, .f32⟩
  | 49 => ⟨S_, .i32⟩
  | 50 => ⟨S8192x8192, .i32⟩
  | 51 => ⟨S8192x8192, .i1⟩
  | 52 => ⟨S_, .i32⟩
  | 53 => ⟨S8192x8192, .i32⟩
  | 54 => ⟨S8192x8192, .i1⟩
  | 55 => ⟨S8192x8192, .i1⟩
  | 56 => ⟨S_, .i32⟩
  | 57 => ⟨S8192x8192, .i32⟩
  | 58 => ⟨S8192x8192, .i32⟩
  | 59 => ⟨S_, .i32⟩
  | 60 => ⟨S8192x8192, .i32⟩
  | 61 => ⟨S8192x8192, .i1⟩
  | 62 => ⟨S8192x8192, .i1⟩
  | 63 => ⟨S1x1x8192x8192, .i1⟩
  | 64 => ⟨S_, .f32⟩
  | 65 => ⟨S_, .f32⟩
  | 66 => ⟨S2x12x8192x8192, .i1⟩
  | 67 => ⟨S2x12x8192x8192, .f32⟩
  | 68 => ⟨S2x12x8192x8192, .f32⟩
  | 69 => ⟨S_, .f32⟩
  | 70 => ⟨S2x12x8192, .f32⟩
  | 71 => ⟨S2x12x8192x1, .f32⟩
  | 72 => ⟨S2x12x8192x8192, .f32⟩
  | 73 => ⟨S2x12x8192x8192, .f32⟩
  | 74 => ⟨S2x12x8192x8192, .f32⟩
  | 75 => ⟨S_, .f32⟩
  | 76 => ⟨S2x12x8192, .f32⟩
  | 77 => ⟨S2x12x8192x64, .f32⟩
  | 78 => ⟨S2x12x8192x1, .f32⟩
  | 79 => ⟨S2x12x8192x64, .f32⟩
  | 80 => ⟨S2x12x8192x64, .f32⟩
  | 81 => ⟨S_, .i32⟩
  | 82 => ⟨S8192x8192, .i32⟩
  | 83 => ⟨S8192x8192, .i1⟩
  | 84 => ⟨S_, .i32⟩
  | 85 => ⟨S8192x8192, .i32⟩
  | 86 => ⟨S8192x8192, .i1⟩
  | 87 => ⟨S8192x8192, .i1⟩
  | 88 => ⟨S_, .i32⟩
  | 89 => ⟨S8192x8192, .i32⟩
  | 90 => ⟨S8192x8192, .i32⟩
  | 91 => ⟨S_, .i32⟩
  | 92 => ⟨S8192x8192, .i32⟩
  | 93 => ⟨S8192x8192, .i1⟩
  | 94 => ⟨S8192x8192, .i1⟩
  | 95 => ⟨S1x1x8192x8192, .i1⟩
  | 96 => ⟨S_, .f32⟩
  | 97 => ⟨S_, .f32⟩
  | 98 => ⟨S2x12x8192x8192, .i1⟩
  | 99 => ⟨S2x12x8192x8192, .f32⟩
  | 100 => ⟨S2x12x8192x8192, .f32⟩
  | 101 => ⟨S_, .f32⟩
  | 102 => ⟨S2x12x8192, .f32⟩
  | 103 => ⟨S2x12x8192x1, .f32⟩
  | 104 => ⟨S2x12x8192x8192, .f32⟩
  | 105 => ⟨S2x12x8192x8192, .f32⟩
  | 106 => ⟨S2x12x8192x8192, .f32⟩
  | 107 => ⟨S_, .f32⟩
  | 108 => ⟨S2x12x8192, .f32⟩
  | 109 => ⟨S2x12x8192x64, .f32⟩
  | 110 => ⟨S2x12x8192x1, .f32⟩
  | 111 => ⟨S2x12x8192x64, .f32⟩
  | 112 => ⟨S2x12x8192x64, .f32⟩
  | 113 => ⟨S2x12x8192, .f32⟩
  | 114 => ⟨S2x12x8192, .f32⟩
  | 115 => ⟨S2x12x8192, .f32⟩
  | 116 => ⟨S2x12x8192, .f32⟩
  | 117 => ⟨S2x12x8192, .f32⟩
  | 118 => ⟨S2x12x8192, .f32⟩
  | 119 => ⟨S2x12x8192, .f32⟩
  | 120 => ⟨S2x12x8192, .f32⟩
  | 121 => ⟨S2x12x8192, .f32⟩
  | 122 => ⟨S2x12x8192, .f32⟩
  | 123 => ⟨S2x12x8192, .f32⟩
  | 124 => ⟨S2x12x8192x1, .f32⟩
  | 125 => ⟨S2x12x8192x64, .f32⟩
  | 126 => ⟨S2x12x8192x64, .f32⟩
  | 127 => ⟨S_, .f32⟩
  | _ => ⟨S2x8192x768, .f32⟩

abbrev hbmTy0_1 (i : Nat) : BufTy := match i % 128 with
  | 0 => ⟨S2x12x8192x64, .f32⟩
  | 1 => ⟨S2x12x8192x64, .f32⟩
  | 2 => ⟨S2x12x8192x1, .f32⟩
  | 3 => ⟨S2x12x8192x64, .f32⟩
  | 4 => ⟨S2x12x8192x64, .f32⟩
  | 5 => ⟨S2x12x8192x64, .f32⟩
  | 6 => ⟨S2x12x8192x1, .f32⟩
  | 7 => ⟨S2x12x8192x64, .f32⟩
  | 8 => ⟨S2x12x8192x64, .f32⟩
  | 9 => ⟨S2x12x8192x64, .f32⟩
  | 10 => ⟨S_, .f32⟩
  | 11 => ⟨S2x12x8192, .f32⟩
  | 12 => ⟨S2x12x8192, .f32⟩
  | 13 => ⟨S2x12x8192, .f32⟩
  | 14 => ⟨S2x12x8192, .f32⟩
  | 15 => ⟨S2x12x8192x1, .f32⟩
  | 16 => ⟨S2x12x8192x64, .f32⟩
  | 17 => ⟨S2x12x8192x64, .f32⟩
  | 18 => ⟨S2x8192x12x64, .f32⟩
  | 19 => ⟨S2x8192x768, .f32⟩
  | 20 => ⟨S2x8192x768, .bf16⟩
  | _ => ⟨S2x8192x768, .f32⟩

abbrev hbmTy (i : Nat) : BufTy := match i / 128 with
  | 0 => hbmTy0_0 i
  | 1 => hbmTy0_1 i
  | _ => ⟨S2x8192x768, .f32⟩

abbrev bufTy : (tb : Table) → Fin (tcTables nBuf tb) → BufTy
  | .hbm, ⟨i, _⟩ => hbmTy i
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_c_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_15 : Ref sig .tc := ⟨.hbm, 88, rfl⟩
abbrev main_v62 : Ref sig .tc := ⟨.hbm, 89, rfl⟩
abbrev main_v63 : Ref sig .tc := ⟨.hbm, 90, rfl⟩
abbrev main_c_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v68 : Ref sig .tc := ⟨.hbm, 100, rfl⟩
abbrev main_cst_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_19 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_20 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_21 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]
-- ==== Kernel2.lean ====
abbrev S16384x1024 : Shape := ⟨2, ![16384, 1024]⟩
abbrev S1024x2512 : Shape := ⟨2, ![1024, 2512]⟩
abbrev S256 : Shape := ⟨1, ![256]⟩
abbrev S128 : Shape := ⟨1, ![128]⟩
abbrev S64 : Shape := ⟨1, ![64]⟩
abbrev S1024x384 : Shape := ⟨2, ![1024, 384]⟩
abbrev S1024x72 : Shape := ⟨2, ![1024, 72]⟩
abbrev S1024x8 : Shape := ⟨2, ![1024, 8]⟩
abbrev S_ : Shape := ⟨0, ![]⟩
abbrev S1024x48 : Shape := ⟨2, ![1024, 48]⟩
abbrev S1024x2048 : Shape := ⟨2, ![1024, 2048]⟩
abbrev S1024x2560 : Shape := ⟨2, ![1024, 2560]⟩
abbrev S1x128 : Shape := ⟨2, ![1, 128]⟩
abbrev S1 : Shape := ⟨1, ![1]⟩
abbrev S2 : Shape := ⟨1, ![2]⟩
abbrev S1x256 : Shape := ⟨2, ![1, 256]⟩
abbrev S16384x256 : Shape := ⟨2, ![16384, 256]⟩
abbrev S16384x128 : Shape := ⟨2, ![16384, 128]⟩
abbrev S16384x64 : Shape := ⟨2, ![16384, 64]⟩
abbrev S16384x2048 : Shape := ⟨2, ![16384, 2048]⟩
abbrev S512x1024 : Shape := ⟨2, ![512, 1024]⟩
abbrev S512x256 : Shape := ⟨2, ![512, 256]⟩
abbrev S512x128 : Shape := ⟨2, ![512, 128]⟩
abbrev S512x64 : Shape := ⟨2, ![512, 64]⟩
abbrev S512x2048 : Shape := ⟨2, ![512, 2048]⟩
abbrev S1024x256 : Shape := ⟨2, ![1024, 256]⟩
abbrev S512 : Shape := ⟨1, ![512]⟩
abbrev S512x1 : Shape := ⟨2, ![512, 1]⟩
abbrev S1024x128 : Shape := ⟨2, ![1024, 128]⟩

abbrev nBuf : Space → Nat
  | .hbm => 37
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x2512, .f32⟩
  | .hbm, ⟨2, _⟩ => ⟨S256, .f32⟩
  | .hbm, ⟨3, _⟩ => ⟨S128, .f32⟩
  | .hbm, ⟨4, _⟩ => ⟨S64, .f32⟩
  | .hbm, ⟨5, _⟩ => ⟨S64, .f32⟩
  | .hbm, ⟨6, _⟩ => ⟨S1024x384, .f32⟩
  | .hbm, ⟨7, _⟩ => ⟨S1024x72, .f32⟩
  | .hbm, ⟨8, _⟩ => ⟨S1024x8, .f32⟩
  | .hbm, ⟨9, _⟩ => ⟨S_, .f32⟩
  | .hbm, ⟨10, _⟩ => ⟨S1024x48, .f32⟩
  | .hbm, ⟨11, _⟩ => ⟨S1024x2048, .f32⟩
  | .hbm, ⟨12, _⟩ => ⟨S1024x2560, .f32⟩
  | .hbm, ⟨13, _⟩ => ⟨S1024x2560, .bf16⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S1x256, .f32⟩
  | .hbm, ⟨31, _⟩ => ⟨S1x128, .f32⟩
  | .hbm, ⟨32, _⟩ => ⟨S16384x256, .bf16⟩
  | .hbm, ⟨33, _⟩ => ⟨S16384x128, .bf16⟩
  | .hbm, ⟨34, _⟩ => ⟨S16384x64, .bf16⟩
  | .hbm, ⟨35, _⟩ => ⟨S16384x128, .f32⟩
  | .hbm, ⟨36, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S1x256, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S512x256, .bf16⟩
  | .local _ .vmem, ⟨8, _⟩ => ⟨S512x256, .bf16⟩
  | .local _ .vmem, ⟨9, _⟩ => ⟨S512x128, .bf16⟩
  | .local _ .vmem, ⟨10, _⟩ => ⟨S512x128, .bf16⟩
  | .local _ .vmem, ⟨11, _⟩ => ⟨S512x64, .bf16⟩
  | .local _ .vmem, ⟨12, _⟩ => ⟨S512x64, .bf16⟩
  | .local _ .vmem, ⟨13, _⟩ => ⟨S512x128, .f32⟩
  | .local _ .vmem, ⟨14, _⟩ => ⟨S512x128, .f32⟩
  | .local _ .vmem, ⟨15, _⟩ => ⟨S512x2048, .f32⟩
  | .local _ .vmem, ⟨16, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S1024x2512 : Shape := ⟨2, ![1024, 2512]⟩
abbrev S256 : Shape := ⟨1, ![256]⟩
abbrev S128 : Shape := ⟨1, ![128]⟩
abbrev S64 : Shape := ⟨1, ![64]⟩
abbrev S16384x2512 : Shape := ⟨2, ![16384, 2512]⟩
abbrev S16384x256 : Shape := ⟨2, ![16384, 256]⟩
abbrev S16384x128 : Shape := ⟨2, ![16384, 128]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S1x128 : Shape := ⟨2, ![1, 128]⟩
abbrev S1x64 : Shape := ⟨2, ![1, 64]⟩
abbrev S16384x8 : Shape := ⟨2, ![16384, 8]⟩
abbrev S16384x4 : Shape := ⟨2, ![16384, 4]⟩
abbrev S16384x48 : Shape := ⟨2, ![16384, 48]⟩
abbrev S16384x2048 : Shape := ⟨2, ![16384, 2048]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2512, .f32⟩
  | .hbm, ⟨2, _⟩ => ⟨S256, .f32⟩
  | .hbm, ⟨3, _⟩ => ⟨S128, .f32⟩
  | .hbm, ⟨4, _⟩ => ⟨S64, .f32⟩
  | .hbm, ⟨5, _⟩ => ⟨S64, .f32⟩
  | .hbm, ⟨6, _⟩ => ⟨S16384x2512, .f32⟩
  | .hbm, ⟨7, _⟩ => ⟨S16384x256, .f32⟩
  | .hbm, ⟨8, _⟩ => ⟨S16384x128, .f32⟩
  | .hbm, ⟨9, _⟩ => ⟨S16384x64, .f32⟩
  | .hbm, ⟨10, _⟩ => ⟨S16384x256, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x256, .f32⟩
  | .hbm, ⟨22, _⟩ => ⟨S16384x256, .f32⟩
  | .hbm, ⟨23, _⟩ => ⟨S1x256, .f32⟩
  | .hbm, ⟨24, _⟩ => ⟨S16384x256, .f32⟩
  | .hbm, ⟨25, _⟩ => ⟨S16384x256, .f32⟩
  | .hbm, ⟨26, _⟩ => ⟨S16384x128, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x128, .f32⟩
  | .hbm, ⟨38, _⟩ => ⟨S16384x128, .f32⟩
  | .hbm, ⟨39, _⟩ => ⟨S1x128, .f32⟩
  | .hbm, ⟨40, _⟩ => ⟨S16384x128, .f32⟩
  | .hbm, ⟨41, _⟩ => ⟨S16384x128, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x64, .f32⟩
  | .hbm, ⟨58, _⟩ => ⟨S16384x64, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x64, .f32⟩
  | .hbm, ⟨64, _⟩ => ⟨S16384x64, .f32⟩
  | .hbm, ⟨65, _⟩ => ⟨S1x64, .f32⟩
  | .hbm, ⟨66, _⟩ => ⟨S16384x64, .f32⟩
  | .hbm, ⟨67, _⟩ => ⟨S16384x64, .f32⟩
  | .hbm, ⟨68, _⟩ => ⟨S1x64, .f32⟩
  | .hbm, ⟨69, _⟩ => ⟨S16384x64, .f32⟩
  | .hbm, ⟨70, _⟩ => ⟨S16384x64, .f32⟩
  | .hbm, ⟨71, _⟩ => ⟨S16384x8, .f32⟩
  | .hbm, ⟨72, _⟩ => ⟨S16384x4, .f32⟩
  | .hbm, ⟨73, _⟩ => ⟨S16384x4, .f32⟩
  | .hbm, ⟨74, _⟩ => ⟨S_, .f32⟩
  | .hbm, ⟨75, _⟩ => ⟨S16384x48, .f32⟩
  | .hbm, ⟨76, _⟩ => ⟨S16384x128, .f32⟩
  | .hbm, ⟨77, _⟩ => ⟨S16384x256, .bf16⟩
  | .hbm, ⟨78, _⟩ => ⟨S16384x128, .bf16⟩
  | .hbm, ⟨79, _⟩ => ⟨S16384x64, .bf16⟩
  | .hbm, ⟨80, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel3.lean ====
abbrev S16384x1024 : Shape := ⟨2, ![16384, 1024]⟩
abbrev S1024x2560 : Shape := ⟨2, ![1024, 2560]⟩
abbrev S16384x768 : Shape := ⟨2, ![16384, 768]⟩
abbrev S16384x256 : Shape := ⟨2, ![16384, 256]⟩
abbrev S512x1024 : Shape := ⟨2, ![512, 1024]⟩
abbrev S512x768 : Shape := ⟨2, ![512, 768]⟩
abbrev S512x256 : Shape := ⟨2, ![512, 256]⟩
abbrev S1024x768 : Shape := ⟨2, ![1024, 768]⟩
abbrev S1024x256 : Shape := ⟨2, ![1024, 256]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x2560, .f32⟩
  | .hbm, ⟨2, _⟩ => ⟨S1024x2560, .bf16⟩
  | .hbm, ⟨3, _⟩ => ⟨S16384x768, .f32⟩
  | .hbm, ⟨4, _⟩ => ⟨S16384x768, .bf16⟩
  | .hbm, ⟨5, _⟩ => ⟨S16384x768, .bf16⟩
  | .hbm, ⟨6, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x768, .f32⟩
  | .local _ .vmem, ⟨4, _⟩ => ⟨S512x768, .f32⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x256, .f32⟩
  | .local _ .vmem, ⟨10, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S1024x2560 : Shape := ⟨2, ![1024, 2560]⟩
abbrev S16384x2560 : Shape := ⟨2, ![16384, 2560]⟩
abbrev S16384x768 : Shape := ⟨2, ![16384, 768]⟩
abbrev S16384x256 : Shape := ⟨2, ![16384, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2560, .f32⟩
  | .hbm, ⟨2, _⟩ => ⟨S16384x2560, .f32⟩
  | .hbm, ⟨3, _⟩ => ⟨S16384x768, .f32⟩
  | .hbm, ⟨4, _⟩ => ⟨S16384x768, .f32⟩
  | .hbm, ⟨5, _⟩ => ⟨S16384x768, .bf16⟩
  | .hbm, ⟨6, _⟩ => ⟨S16384x768, .f32⟩
  | .hbm, ⟨7, _⟩ => ⟨S16384x768, .bf16⟩
  | .hbm, ⟨8, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S73728x1024 : Shape := ⟨2, ![73728, 1024]⟩
abbrev S32 : Shape := ⟨1, ![32]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S32x1x1024 : Shape := ⟨3, ![32, 1, 1024]⟩
abbrev S256x1024 : Shape := ⟨2, ![256, 1024]⟩
abbrev S1x1x1024x2048 : Shape := ⟨4, ![1, 1, 1024, 2048]⟩
abbrev S1x1x1024 : Shape := ⟨3, ![1, 1, 1024]⟩
abbrev S1x1x1024x1024 : Shape := ⟨4, ![1, 1, 1024, 1024]⟩
abbrev S16384x128 : Shape := ⟨2, ![16384, 128]⟩
abbrev S1024x1024 : Shape := ⟨2, ![1024, 1024]⟩
abbrev S1x1x1024x512 : Shape := ⟨4, ![1, 1, 1024, 512]⟩
abbrev S1024x512 : Shape := ⟨2, ![1024, 512]⟩
abbrev S512x1024 : Shape := ⟨2, ![512, 1024]⟩
abbrev S512x128 : Shape := ⟨2, ![512, 128]⟩
abbrev S1024x128 : Shape := ⟨2, ![1024, 128]⟩
abbrev S1x1024 : Shape := ⟨2, ![1, 1024]⟩

abbrev nBuf : Space → Nat
  | .hbm => 74
  | .vmem => 18
  | .smem => 2
  | _ => 0

abbrev bufTy : (tb : Table) → Fin (tcTables nBuf tb) → BufTy
  | .hbm, ⟨0, _⟩ => ⟨S73728x1024, .f32⟩
  | .hbm, ⟨1, _⟩ => ⟨S32, .i32⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S288, .i32⟩
  | .hbm, ⟨37, _⟩ => ⟨S_, .i32⟩
  | .hbm, ⟨38, _⟩ => ⟨S288, .i32⟩
  | .hbm, ⟨39, _⟩ => ⟨S288, .i32⟩
  | .hbm, ⟨40, _⟩ => ⟨S1x32, .i32⟩
  | .hbm, ⟨41, _⟩ => ⟨S288x1, .i32⟩
  | .hbm, ⟨42, _⟩ => ⟨S288x32, .i32⟩
  | .hbm, ⟨43, _⟩ => ⟨S288x32, .i32⟩
  | .hbm, ⟨44, _⟩ => ⟨S288x32, .i1⟩
  | .hbm, ⟨45, _⟩ => ⟨S288x32, .i32⟩
  | .hbm, ⟨46, _⟩ => ⟨S_, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S32x1024, .f32⟩
  | .hbm, ⟨69, _⟩ => ⟨S32x1x1024, .f32⟩
  | .hbm, ⟨70, _⟩ => ⟨S32x1024, .f32⟩
  | .hbm, ⟨71, _⟩ => ⟨S32x1x1024, .f32⟩
  | .hbm, ⟨72, _⟩ => ⟨S32x1x1024, .f32⟩
  | .hbm, ⟨73, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x1024, .f32⟩
  | .local _ .vmem, ⟨13, _⟩ => ⟨S256x1024, .f32⟩
  | .local _ .vmem, ⟨14, _⟩ => ⟨S16384x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S73728x1024 : Shape := ⟨2, ![73728, 1024]⟩
abbrev S32 : Shape := ⟨1, ![32]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S288x256x1024 : Shape := ⟨3, ![288, 256, 1024]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S288x256x2048 : Shape := ⟨3, ![288, 256, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S288x1024 : Shape := ⟨2, ![288, 1024]⟩
abbrev S288x1x1024 : Shape := ⟨3, ![288, 1, 1024]⟩
abbrev S1 : Shape := ⟨1, ![1]⟩
abbrev S288x1x1 : Shape := ⟨3, ![288, 1, 1]⟩

abbrev nBuf : Space → Nat
  | .hbm => 157
  | .vmem => 0
  | .smem => 0
  | _ => 0

abbrev hbmTy0_0 (i : Nat) : BufTy := match i % 128 with
  | 0 => ⟨S73728x1024, .f32⟩
  | 1 => ⟨S32, .i32⟩
  | 2 => ⟨S2x32x1024x2048, .f32⟩
  | 3 => ⟨S32x2048, .f32⟩
  | 4 => ⟨S2x32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S288, .i32⟩
  | 37 => ⟨S1x32, .i32⟩
  | 38 => ⟨S_, .i32⟩
  | 39 => ⟨S288, .i32⟩
  | 40 => ⟨S288, .i32⟩
  | 41 => ⟨S288x1, .i32⟩
  | 42 => ⟨S288x32, .i32⟩
  | 43 => ⟨S288x32, .i32⟩
  | 44 => ⟨S288x32, .i1⟩
  | 45 => ⟨S288x32, .i32⟩
  | 46 => ⟨S_, .i32⟩
  | 47 => ⟨S288, .i32⟩
  | 48 => ⟨S_, .i32⟩
  | 49 => ⟨S288, .i32⟩
  | 50 => ⟨S288, .i32⟩
  | 51 => ⟨S288x256x1024, .f32⟩
  | 52 => ⟨S1x32x1024x2048, .f32⟩
  | 53 => ⟨S32x1024x2048, .f32⟩
  | 54 => ⟨S_, .i32⟩
  | 55 => ⟨S288, .i32⟩
  | 56 => ⟨S288, .i1⟩
  | 57 => ⟨S_, .i32⟩
  | 58 => ⟨S288, .i32⟩
  | 59 => ⟨S288, .i32⟩
  | 60 => ⟨S288, .i32⟩
  | 61 => ⟨S288x1, .i32⟩
  | 62 => ⟨S288x1024x2048, .f32⟩
  | 63 => ⟨S288x256x2048, .f32⟩
  | 64 => ⟨S_, .i32⟩
  | 65 => ⟨S288, .i32⟩
  | 66 => ⟨S288, .i1⟩
  | 67 => ⟨S_, .i32⟩
  | 68 => ⟨S288, .i32⟩
  | 69 => ⟨S288, .i32⟩
  | 70 => ⟨S288, .i32⟩
  | 71 => ⟨S288x1, .i32⟩
  | 72 => ⟨S288x2048, .f32⟩
  | 73 => ⟨S288x1x2048, .f32⟩
  | 74 => ⟨S288x256x2048, .f32⟩
  | 75 => ⟨S288x256x2048, .f32⟩
  | 76 => ⟨S288x256x1024, .f32⟩
  | 77 => ⟨S_, .f32⟩
  | 78 => ⟨S288x256x1024, .f32⟩
  | 79 => ⟨S288x256x1024, .f32⟩
  | 80 => ⟨S288x256x1024, .f32⟩
  | 81 => ⟨S_, .f32⟩
  | 82 => ⟨S_, .f32⟩
  | 83 => ⟨S_, .f32⟩
  | 84 => ⟨S288x256x1024, .f32⟩
  | 85 => ⟨S288x256x1024, .f32⟩
  | 86 => ⟨S_, .f32⟩
  | 87 => ⟨S288x256x1024, .f32⟩
  | 88 => ⟨S288x256x1024, .f32⟩
  | 89 => ⟨S_, .f32⟩
  | 90 => ⟨S288x256x1024, .f32⟩
  | 91 => ⟨S288x256x1024, .f32⟩
  | 92 => ⟨S_, .f32⟩
  | 93 => ⟨S288x256x1024, .f32⟩
  | 94 => ⟨S288x256x1024, .f32⟩
  | 95 => ⟨S288x256x1024, .f32⟩
  | 96 => ⟨S288x256x1024, .f32⟩
  | 97 => ⟨S_, .f32⟩
  | 98 => ⟨S288x256x1024, .f32⟩
  | 99 => ⟨S288x256x1024, .f32⟩
  | 100 => ⟨S_, .f32⟩
  | 101 => ⟨S288x256x1024, .f32⟩
  | 102 => ⟨S288x256x1024, .f32⟩
  | 103 => ⟨S288x256x1024, .f32⟩
  | 104 => ⟨S288x256x1024, .f32⟩
  | 105 => ⟨S1x32x1024x1024, .f32⟩
  | 106 => ⟨S32x1024x1024, .f32⟩
  | 107 => ⟨S_, .i32⟩
  | 108 => ⟨S288, .i32⟩
  | 109 => ⟨S288, .i1⟩
  | 110 => ⟨S_, .i32⟩
  | 111 => ⟨S288, .i32⟩
  | 112 => ⟨S288, .i32⟩
  | 113 => ⟨S288, .i32⟩
  | 114 => ⟨S288x1, .i32⟩
  | 115 => ⟨S288x1024x1024, .f32⟩
  | 116 => ⟨S288x256x1024, .f32⟩
  | 117 => ⟨S_, .i32⟩
  | 118 => ⟨S288, .i32⟩
  | 119 => ⟨S288, .i1⟩
  | 120 => ⟨S_, .i32⟩
  | 121 => ⟨S288, .i32⟩
  | 122 => ⟨S288, .i32⟩
  | 123 => ⟨S288, .i32⟩
  | 124 => ⟨S288x1, .i32⟩
  | 125 => ⟨S288x1024, .f32⟩
  | 126 => ⟨S288x1x1024, .f32⟩
  | 127 => ⟨S288x256x1024, .f32⟩
  | _ => ⟨S73728x1024, .f32⟩

abbrev hbmTy0_1 (i : Nat) : BufTy := match i % 128 with
  | 0 => ⟨S288x256x1024, .f32⟩
  | 1 => ⟨S1, .i32⟩
  | 2 => ⟨S_, .i32⟩
  | 3 => ⟨S_, .i32⟩
  | 4 => ⟨S1, .i32⟩
  | 5 => ⟨S1, .i32⟩
  | 6 => ⟨S1, .i32⟩
  | 7 => ⟨S_, .i32⟩
  | 8 => ⟨S1, .i32⟩
  | 9 => ⟨S1, .i1⟩
  | 10 => ⟨S1, .i32⟩
  | 11 => ⟨S1, .i32⟩
  | 12 => ⟨S_, .i32⟩
  | 13 => ⟨S1, .i32⟩
  | 14 => ⟨S1, .i1⟩
  | 15 => ⟨S1, .i1⟩
  | 16 => ⟨S_, .i32⟩
  | 17 => ⟨S1, .i32⟩
  | 18 => ⟨S1, .i32⟩
  | 19 => ⟨S1, .i32⟩
  | 20 => ⟨S288, .i32⟩
  | 21 => ⟨S288, .i1⟩
  | 22 => ⟨S288x1x1, .i1⟩
  | 23 => ⟨S_, .f32⟩
  | 24 => ⟨S_, .f32⟩
  | 25 => ⟨S288x256x1024, .i1⟩
  | 26 => ⟨S288x256x1024, .f32⟩
  | 27 => ⟨S288x256x1024, .f32⟩
  | 28 => ⟨S73728x1024, .f32⟩
  | _ => ⟨S73728x1024, .f32⟩

abbrev hbmTy (i : Nat) : BufTy := match i / 128 with
  | 0 => hbmTy0_0 i
  | 1 => hbmTy0_1 i
  | _ => ⟨S73728x1024, .f32⟩

abbrev bufTy : (tb : Table) → Fin (tcTables nBuf tb) → BufTy
  | .hbm, ⟨i, _⟩ => hbmTy i
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_8 : Ref sig .tc := ⟨.hbm, 64, rfl⟩
abbrev main_v31 : Ref sig .tc := ⟨.hbm, 65, rfl⟩
abbrev main_v32 : Ref sig .tc := ⟨.hbm, 66, rfl⟩
abbrev main_c_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_10 : Ref sig .tc := ⟨.hbm, 81, rfl⟩
abbrev main_cst_11 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v45 : Ref sig .tc := ⟨.hbm, 88, rfl⟩
abbrev main_cst_12 : Ref sig .tc := ⟨.hbm, 89, rfl⟩
abbrev main_v46 : Ref sig .tc := ⟨.hbm, 90, rfl⟩
abbrev main_v47 : Ref sig .tc := ⟨.hbm, 91, rfl⟩
abbrev main_cst_13 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_14 : Ref sig .tc := ⟨.hbm, 97, rfl⟩
abbrev main_v52 : Ref sig .tc := ⟨.hbm, 98, rfl⟩
abbrev main_v53 : Ref sig .tc := ⟨.hbm, 99, rfl⟩
abbrev main_cst_15 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_c_16 : Ref sig .tc := ⟨.hbm, 107, rfl⟩
abbrev main_v60 : Ref sig .tc := ⟨.hbm, 108, rfl⟩
abbrev main_v61 : Ref sig .tc := ⟨.hbm, 109, rfl⟩
abbrev main_c_17 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_18 : Ref sig .tc := ⟨.hbm, 117, rfl⟩
abbrev main_v68 : Ref sig .tc := ⟨.hbm, 118, rfl⟩
abbrev main_v69 : Ref sig .tc := ⟨.hbm, 119, rfl⟩
abbrev main_c_19 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_20 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_c : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_0 : Ref sig .tc := ⟨.hbm, 144, rfl⟩
abbrev main_call3_v12 : Ref sig .tc := ⟨.hbm, 145, rfl⟩
abbrev main_call3_v13 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_cst_21 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_v83 : Ref sig .tc := ⟨.hbm, 155, rfl⟩
abbrev main_v84 : Ref sig .tc := ⟨.hbm, 156, rfl⟩

abbrev nD : Nat := 1
abbrev τ : Topo := Topo.v7x

variable {F : FTy → Type} [FloatOps F]
-- ==== Proof.Body.lean ====
/- The kernel's body as a value: the scratch buffers it keeps its running maximum, its running denominators and its
   running numerators in, after any number of trips of its loop over the blocks of keys, and what it stores at the end. -/
module

public import proofs.«01_k».proof.Proof.Gen.KernelIdeal.Value
public import Idealize.ShloMosaic.Lib.VecWindow
public import Idealize.ShloMosaic.Lib.LoopRemainder

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- A row of 1024 x 128 numbers, the shape of every running quantity. -/
abbrev Wide (F : FTy → Type) : Type := Vec F S1024x128 .f32

/-- The running maximum, denominators and numerators. -/
abbrev St (F : FTy → Type) : Type := Wide F × Wide F × Wide F

/-- One block of keys: its keys `kb`, its values `vb`, the queries `q` of both heads, its bias `bb`. -/
def step (kb vb : Vec F S1x512x128 .bf16) (q : Vec F S1024x128 .bf16) (bb : Vec F S1x512x512 .f32) (s : St F) : St F :=
  (k0_pay3 (k0_pay14 kb q bb s.1),
   k0_pay1 (k0_pay19 kb q bb s.1) (k0_pay20 kb q bb s.1) s.2.1,
   k0_pay2 (k0_pay8 vb) (k0_pay15 kb q bb s.1) (k0_pay16 kb q bb s.1) (k0_pay17 kb q bb s.1) (k0_pay18 kb q bb s.1)
     (k0_pay19 kb q bb s.1) s.2.2)

/-- Block of keys (or of values) number `k` of those point `i` visits. -/
def keys (i : grid0.Coords) (k : Fin (k0_t1_loop i).trips) (x : Vec F S1x8192x128 .bf16) : Vec F S1x512x128 .bf16 :=
  View.ld x (Rect.unit (s := S1x8192x128) (k0_off1 i k) S1x512x128.size (k0_off1_inb i k))

/-- The bias block of that block of keys. -/
def biasBlk (i : grid0.Coords) (k : Fin (k0_t1_loop i).trips) (x : Vec F S5x512x512 .f32) : Vec F S1x512x512 .f32 :=
  View.ld x (Rect.unit (s := S5x512x512) (k0_off2 i k) S1x512x512.size (k0_off2_inb i k))

/-- The running quantities after the first `k` blocks. -/
def chain (i : grid0.Coords) (x1 x2 : Vec F S1x8192x128 .bf16) (q : Vec F S1024x128 .bf16) (x3 : Vec F S5x512x512 .f32) :
    ℕ → St F
  | 0 => (k0_pay39, k0_pay40, k0_pay41)
  | k + 1 => if h : k < (k0_t1_loop i).trips then
      step (keys i ⟨k, h⟩ x1) (keys i ⟨k, h⟩ x2) q (biasBlk i ⟨k, h⟩ x3) (chain i x1 x2 q x3 k)
    else chain i x1 x2 q x3 k

/-- The queries of the two heads, each with the other head's columns cleared, one above the other. -/
def q2 (x0 : Vec F S1x512x128 .f32) : Vec F S1024x128 .bf16 :=
  View.canon [⟨Rect.unit ![512, 0] S512x128.size inb_S1024x128_S512x128_512_0, k0_pay38 x0⟩,
    ⟨Rect.unit ![0, 0] S512x128.size inb_S1024x128_S512x128_0_0, k0_pay37 x0⟩]

section Loop

variable (𝒱 : Variants) (c : Dev nD) (bd : Option 𝒱.V) (i : grid0.Coords) (arg3 : Memref sig .tc .vmem S1x512x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S5x512x512 .f32) (harg6 : arg6.IsWhole) (arg7 : Memref sig .tc .vmem S1x512x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg2 : BitVec 32) (v27 : BitVec 32)
  (X4 : BufTy.Contents (Elt F) arg4.view.ty) (X5 : BufTy.Contents (Elt F) arg5.view.ty)
  (X6 : BufTy.Contents (Elt F) arg6.view.ty) (X8 : BufTy.Contents (Elt F) arg8.view.ty)

/-- What one trip of the loop stores, with what it finds in the three running buffers read whole. -/
theorem trip_pieces (k : Fin (k0_t1_loop i).trips) (f9 : BufTy.Contents (Elt F) arg9.view.ty)
    (f10 : BufTy.Contents (Elt F) arg10.view.ty) (f11 : BufTy.Contents (Elt F) arg11.view.ty) (s : St F)
    (h9 : arg9.view.read (Elt F) f9 = s.1) (h10 : arg10.view.read (Elt F) f10 = s.2.1)
    (h11 : arg11.view.read (Elt F) f11 = s.2.2) :
    tripL_k0_t1 (F := F) 𝒱 c bd i arg3 harg3 arg4 harg4 arg5 harg5 arg6 harg6 arg7 harg7 arg8 harg8 arg9 harg9 arg10 harg10 arg11 harg11 arg2 v27 X4 X5 X6 X8 k f9 f10 f11
      = (([⟨Rect.unit (s := S1024x128) ![0, 0] S1024x128.size inb_S1024x128_S1024x128_0_0, (step (keys i k (arg4.view.read (Elt F) X4))
            (keys i k (arg5.view.read (Elt F) X5)) (arg8.view.read (Elt F) X8) (biasBlk i k (arg6.view.read (Elt F) X6)) s).1⟩]),
          ([⟨Rect.unit (s := S1024x128) ![0, 0] S1024x128.size inb_S1024x128_S1024x128_0_0, (step (keys i k (arg4.view.read (Elt F) X4))
            (keys i k (arg5.view.read (Elt F) X5)) (arg8.view.read (Elt F) X8) (biasBlk i k (arg6.view.read (Elt F) X6)) s).2.1⟩]),
          ([⟨Rect.unit (s := S1024x128) ![0, 0] S1024x128.size inb_S1024x128_S1024x128_0_0, (step (keys i k (arg4.view.read (Elt F) X4))
            (keys i k (arg5.view.read (Elt F) X5)) (arg8.view.read (Elt F) X8) (biasBlk i k (arg6.view.read (Elt F) X6)) s).2.2⟩])) := by
  have e9 : View.readAt (Elt F) arg9.view (Rect.unit (s := S1024x128) ![0, 0] S1024x128.size inb_S1024x128_S1024x128_0_0).toLoadRect f9 = s.1 := by
    rw [View.readAt_eq_ld, View.ld_unit_zero (S := S1024x128) hz2, h9]
  have e10 : View.readAt (Elt F) arg10.view (Rect.unit (s := S1024x128) ![0, 0] S1024x128.size inb_S1024x128_S1024x128_0_0).toLoadRect f10 = s.2.1 := by
    rw [View.readAt_eq_ld, View.ld_unit_zero (S := S1024x128) hz2, h10]
  have e11 : View.readAt (Elt F) arg11.view (Rect.unit (s := S1024x128) ![0, 0] S1024x128.size inb_S1024x128_S1024x128_0_0).toLoadRect f11 = s.2.2 := by
    rw [View.readAt_eq_ld, View.ld_unit_zero (S := S1024x128) hz2, h11]
  have e8 : View.readAt (Elt F) arg8.view (Rect.unit (s := S1024x128) ![0, 0] S1024x128.size inb_S1024x128_S1024x128_0_0).toLoadRect X8 = arg8.view.read (Elt F) X8 := by
    rw [View.readAt_eq_ld, View.ld_unit_zero (S := S1024x128) hz2]
  unfold step
  dsimp only
  rw [← e9, ← e10, ← e11, ← e8]
  unfold tripL_k0_t1 trip_k0_t1
  dsimp only
  sl_unfold_words
  rfl

variable (G9 : BufTy.Contents (Elt F) arg9.view.ty) (G10 : BufTy.Contents (Elt F) arg10.view.ty)
  (G11 : BufTy.Contents (Elt F) arg11.view.ty)

/-- After `k` trips the three running buffers hold the running quantities after `k` blocks. -/
theorem loop_read (h9 : arg9.view.read (Elt F) G9 = k0_pay39) (h10 : arg10.view.read (Elt F) G10 = k0_pay40)
    (h11 : arg11.view.read (Elt F) G11 = k0_pay41) (k : ℕ) (hk : k ≤ (k0_t1_loop i).trips) :
    arg9.view.read (Elt F) (arg9.view.writes (Elt F) G9 (pb_k0_t1 (F := F) 𝒱 c bd i arg3 harg3 arg4 harg4 arg5 harg5 arg6 harg6 arg7 harg7 arg8 harg8 arg9 harg9 arg10 harg10 arg11 harg11 arg2 v27 X4 X5 X6 X8 G9 G10 G11 k).1)
        = (chain i (arg4.view.read (Elt F) X4) (arg5.view.read (Elt F) X5) (arg8.view.read (Elt F) X8) (arg6.view.read (Elt F) X6) k).1
    ∧ arg10.view.read (Elt F) (arg10.view.writes (Elt F) G10 (pb_k0_t1 (F := F) 𝒱 c bd i arg3 harg3 arg4 harg4 arg5 harg5 arg6 harg6 arg7 harg7 arg8 harg8 arg9 harg9 arg10 harg10 arg11 harg11 arg2 v27 X4 X5 X6 X8 G9 G10 G11 k).2.1)
        = (chain i (arg4.view.read (Elt F) X4) (arg5.view.read (Elt F) X5) (arg8.view.read (Elt F) X8) (arg6.view.read (Elt F) X6) k).2.1
    ∧ arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 arg2 v27 X4 X5 X6 X8 G9 G10 G11 k).2.2)
        = (chain i (arg4.view.read (Elt F) X4) (arg5.view.read (Elt F) X5) (arg8.view.read (Elt F) X8) (arg6.view.read (Elt F) X6) k).2.2 := by
  induction k with
  | zero => exact ⟨h9, h10, h11⟩
  | succ k ih =>
    obtain ⟨i9, i10, i11⟩ := ih (by omega)
    have hs := pb_k0_t1_succ (F := F) 𝒱 c bd i arg3 harg3 arg4 harg4 arg5 harg5 arg6 harg6 arg7 harg7 arg8 harg8 arg9 harg9 arg10 harg10 arg11 harg11 arg2 v27 X4 X5 X6 X8 G9 G10 G11 ⟨k, by omega⟩
    rw [trip_pieces 𝒱 c bd i arg3 harg3 arg4 harg4 arg5 harg5 arg6 harg6 arg7 harg7 arg8 harg8 arg9 harg9 arg10 harg10 arg11 harg11 arg2 v27 X4 X5 X6 X8 ⟨k, by omega⟩ _ _ _ _ i9 i10 i11] at hs
    rw [hs, chain, dif_pos (show k < (k0_t1_loop i).trips by omega)]
    refine ⟨?_, ?_, ?_⟩
    · exact View.read_writes_full _ _ _ _ _
    · exact View.read_writes_full _ _ _ _ _
    · exact View.read_writes_full _ _ _ _ _

end Loop

set_option maxHeartbeats 2000000 in
/-- WHAT A POINT STORES: the quotients after its last block, each head's half of the columns. -/
theorem out_eq (c : Dev nD) (i : grid0.Coords) (arg3 : Memref sig .tc .vmem S1x512x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S5x512x512 .f32) (harg6 : arg6.IsWhole) (arg7 : Memref sig .tc .vmem S1x512x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole)
    (x0 : Vec F S1x512x128 .f32) (x1 : Vec F S1x8192x128 .bf16) (x2 : Vec F S1x8192x128 .bf16) (x3 : Vec F S5x512x512 .f32) :
    out0_A_4 c i arg3 harg3 arg4 harg4 arg5 harg5 arg6 harg6 arg7 harg7 arg8 harg8 arg9 harg9 arg10 harg10 arg11 harg11 x0 x1 x2 x3
      = k0_pay7 k0_pay35 (chain i x1 x2 (q2 x0) x3 (k0_t1_loop i).trips).2.2 (chain i x1 x2 (q2 x0) x3 (k0_t1_loop i).trips).2.1 := by
  unfold out0_A_4
  rw [View.read_writes_eq_canon _ _ _ (cover0_A_4 c i arg3 harg3 arg4 harg4 arg5 harg5 arg6 harg6 arg7 harg7 arg8 harg8 arg9 harg9 arg10 harg10 arg11 harg11 x0 x1 x2 x3)]
  unfold kernelRun0_A
  dsimp only
  rw [View.canon_unit_zero hz3]
  sl_unfold_words
  have hr : Scf.trips (k0_t2_loop i).lb (k0_t2_loop i).ub (k0_t2_loop i).st = 0 := Scf.rem_trips _ _
  rw [hr]
  have e8 : arg8.view.read (Elt F) (arg8.view.writes (Elt F) arg8.view.junk
      [⟨Rect.unit ![512, 0] S512x128.size inb_S1024x128_S512x128_512_0, k0_pay38 (View.readAt (Elt F) arg3.view
          (Rect.unit ![0, 0, 0] S1x512x128.size inb_S1x512x128_S1x512x128_0_0_0).toLoadRect (harg3.unread x0))⟩,
       ⟨Rect.unit ![0, 0] S512x128.size inb_S1024x128_S512x128_0_0, k0_pay37 (View.readAt (Elt F) arg3.view
          (Rect.unit ![0, 0, 0] S1x512x128.size inb_S1x512x128_S1x512x128_0_0_0).toLoadRect (harg3.unread x0))⟩]) = q2 x0 := by
    rw [View.read_writes_junk_eq_canon, View.readAt_eq_ld, View.ld_unit_zero (S := S1x512x128) hz3, harg3.read_unread]
    rfl
  obtain ⟨-, l10, l11⟩ := loop_read (F := F) Variants.none c none i arg3 harg3 arg4 harg4 arg5 harg5 arg6 harg6 arg7 harg7 arg8 harg8 arg9 harg9 arg10 harg10 arg11 harg11 (BitVec.ofNat 32 (i 2).val)
    (Scalar.maxsi (Scalar.subi (BitVec.ofNat 32 (i 2).val) 4#32) 0#32) (harg4.unread x1) (harg5.unread x2) (harg6.unread x3)
    (arg8.view.writes (Elt F) arg8.view.junk
      [⟨Rect.unit ![512, 0] S512x128.size inb_S1024x128_S512x128_512_0, k0_pay38 (View.readAt (Elt F) arg3.view
          (Rect.unit ![0, 0, 0] S1x512x128.size inb_S1x512x128_S1x512x128_0_0_0).toLoadRect (harg3.unread x0))⟩,
       ⟨Rect.unit ![0, 0] S512x128.size inb_S1024x128_S512x128_0_0, k0_pay37 (View.readAt (Elt F) arg3.view
          (Rect.unit ![0, 0, 0] S1x512x128.size inb_S1x512x128_S1x512x128_0_0_0).toLoadRect (harg3.unread x0))⟩])
    (arg9.view.writes (Elt F) arg9.view.junk [⟨Rect.unit ![0, 0] S1024x128.size inb_S1024x128_S1024x128_0_0, k0_pay39⟩])
    (arg10.view.writes (Elt F) arg10.view.junk [⟨Rect.unit ![0, 0] S1024x128.size inb_S1024x128_S1024x128_0_0, k0_pay40⟩])
    (arg11.view.writes (Elt F) arg11.view.junk [⟨Rect.unit ![0, 0] S1024x128.size inb_S1024x128_S1024x128_0_0, k0_pay41⟩])
    (View.read_writes_full _ _ _ _ _) (View.read_writes_full _ _ _ _ _) (View.read_writes_full _ _ _ _ _)
    (k0_t1_loop i).trips le_rfl
  rw [e8, harg4.read_unread, harg5.read_unread, harg6.read_unread, ← View.writes_append] at l10 l11
  rw [← l11, ← l10]
  exact congrArg₂ (k0_pay7 k0_pay35) (View.ld_unit_zero (S := S1024x128) hz2 _ _) (View.ld_unit_zero (S := S1024x128) hz2 _ _)

end Cert.KernelIdeal.Att

end
-- ==== Proof.Mix.lean ====
/- The mathematics of the dilated attention, over the extended reals and over finite families of keys: a running softmax
   that rescales its sums at every block of keys keeps the sums it would have had with the last maximum from the start
   (`online`); and weights `2 ^ (y - m)`, with `y` the score in base-two units plus the logarithm of the number of
   dilation patterns a key belongs to, give the quotient that mixing one softmax per pattern gives (`mixture`). No score
   and no value is assumed finite. -/
module

public import Idealize.ShloMosaic.PureOps.Ideal

@[expose] public section

noncomputable section

namespace Cert.Mix

open Idealize.ShloMosaic
open scoped BigOperators

/-- The weight in base two of a score `y` under the running maximum `m`. -/
def w2 (m y : EReal) : EReal := Ideal.exp2 (y - m)

/-- The weight in base `e` of a score `x` under the maximum `m`. -/
def we (m x : EReal) : EReal := Ideal.exp (x - m)

theorem exp_bot : Ideal.exp ⊥ = 0 := rfl
theorem exp2_bot : Ideal.exp2 ⊥ = 0 := rfl
theorem exp_coe (r : ℝ) : Ideal.exp (r : EReal) = (Real.exp r : EReal) := rfl
theorem exp2_coe (r : ℝ) : Ideal.exp2 (r : EReal) = (Real.rpow 2 r : EReal) := rfl

/-- A number times a finite sum, the number neither negative nor infinite: the product distributes. -/
theorem mul_sum_of_nonneg {ι : Type*} (s : Finset ι) (a : EReal) (h0 : 0 ≤ a) (ht : a ≠ ⊤) (f : ι → EReal) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- The reals inside the extended reals are closed under finite sums. -/
theorem coe_sum {ι : Type*} (s : Finset ι) (f : ι → ℝ) : (∑ j ∈ s, (f j : EReal)) = ((∑ j ∈ s, f j : ℝ) : EReal) := by
  classical
  induction s using Finset.induction_on with
  | empty => simp
  | insert j s hj ih => rw [Finset.sum_insert hj, Finset.sum_insert hj, ih, EReal.coe_add]

/-! ### The weights -/

theorem sub_top (x : EReal) : x - ⊤ = ⊥ := by
  rw [sub_eq_add_neg, EReal.neg_top, EReal.add_bot]

theorem w2_top (y : EReal) : w2 ⊤ y = 0 := by rw [w2, sub_top, exp2_bot]
theorem we_top (x : EReal) : we ⊤ x = 0 := by rw [we, sub_top, exp_bot]
theorem we_bot (m : EReal) : we m ⊥ = 0 := by rw [we, sub_eq_add_neg, EReal.bot_add, exp_bot]
theorem w2_bot (m : EReal) : w2 m ⊥ = 0 := by rw [w2, sub_eq_add_neg, EReal.bot_add, exp2_bot]
theorem w2_coe (m y : ℝ) : w2 m y = (Real.rpow 2 (y - m) : EReal) := by rw [w2, ← EReal.coe_sub, exp2_coe]
theorem we_coe (m x : ℝ) : we m x = (Real.exp (x - m) : EReal) := by rw [we, ← EReal.coe_sub, exp_coe]

/-- A weight under a maximum that bounds its score is a real number, not negative. -/
theorem w2_real {m y : EReal} (h : y ≤ m) : ∃ r : ℝ, 0 ≤ r ∧ w2 m y = r := by
  induction m using EReal.rec with
  | bot => rw [le_bot_iff.1 h]; exact ⟨0, le_rfl, w2_bot _⟩
  | top => exact ⟨0, le_rfl, w2_top _⟩
  | coe m =>
    induction y using EReal.rec with
    | bot => exact ⟨0, le_rfl, w2_bot _⟩
    | top => exact absurd h (by simp)
    | coe y => exact ⟨_, Real.rpow_nonneg (by norm_num) _, w2_coe m y⟩

theorem we_real {m x : EReal} (h : x ≤ m) : ∃ r : ℝ, 0 ≤ r ∧ we m x = r := by
  induction m using EReal.rec with
  | bot => rw [le_bot_iff.1 h]; exact ⟨0, le_rfl, we_bot _⟩
  | top => exact ⟨0, le_rfl, we_top _⟩
  | coe m =>
    induction x using EReal.rec with
    | bot => exact ⟨0, le_rfl, we_bot _⟩
    | top => exact absurd h (by simp)
    | coe x => exact ⟨_, (Real.exp_pos _).le, we_coe m x⟩

theorem w2_nonneg {m y : EReal} (h : y ≤ m) : 0 ≤ w2 m y := by
  obtain ⟨r, h0, e⟩ := w2_real h; rw [e]; exact_mod_cast h0

theorem w2_ne_top {m y : EReal} (h : y ≤ m) : w2 m y ≠ ⊤ := by
  obtain ⟨r, _, e⟩ := w2_real h; rw [e]; exact EReal.coe_ne_top r

/-- Raising the maximum from `m` to `m'` rescales a weight by the weight of `m` itself. -/
theorem w2_rescale {m m' y : EReal} (hm : m ≠ ⊥) (h : y ≤ m) (h' : m ≤ m') : w2 m' m * w2 m y = w2 m' y := by
  induction m' using EReal.rec with
  | bot => exact absurd (le_bot_iff.1 h') hm
  | top => rw [w2_top, w2_top, zero_mul]
  | coe m' =>
    induction m using EReal.rec with
    | bot => exact absurd rfl hm
    | top => exact absurd h' (by simp)
    | coe m =>
      induction y using EReal.rec with
      | bot => rw [w2_bot, w2_bot, mul_zero]
      | top => exact absurd h (by simp)
      | coe y =>
        rw [w2_coe, w2_coe, w2_coe, ← EReal.coe_mul]
        congr 1
        show (2 : ℝ) ^ (m - m') * (2 : ℝ) ^ (y - m) = (2 : ℝ) ^ (y - m')
        rw [← Real.rpow_add (by norm_num)]
        congr 1; ring

theorem we_rescale {m m' x : EReal} (h : x ≤ m) (h' : m ≤ m') (hm' : m' ≠ ⊤) : we m' m * we m x = we m' x := by
  induction m' using EReal.rec with
  | bot =>
    rw [le_bot_iff.1 h'] at h ⊢
    rw [le_bot_iff.1 h, we_bot, mul_zero]
  | top => exact absurd rfl hm'
  | coe m' =>
    induction m using EReal.rec with
    | bot => rw [le_bot_iff.1 h, we_bot, we_bot, mul_zero]
    | top => exact absurd h' (by simp)
    | coe m =>
      induction x using EReal.rec with
      | bot => rw [we_bot, we_bot, mul_zero]
      | top => exact absurd h (by simp)
      | coe x =>
        rw [we_coe, we_coe, we_coe, ← EReal.coe_mul, ← Real.exp_add]
        congr 2; ring

/-! ### The running sums -/

/-- A sum rescaled at every block of keys: if the maxima `M` never fall and bound the scores of the blocks before them,
    the running sum after `k` blocks is the sum of all their terms weighed under the latest maximum. -/
theorem online {ι : Type*} [Fintype ι] (M : ℕ → EReal) (y v : ℕ → ι → EReal) (A : ℕ → EReal) (hM0 : M 0 ≠ ⊥)
    (n : ℕ) (hM : ∀ k < n, M k ≤ M (k + 1)) (hy : ∀ k < n, ∀ j, y k j ≤ M (k + 1)) (hA0 : A 0 = 0)
    (hA : ∀ k < n, A (k + 1) = w2 (M (k + 1)) (M k) * A k + ∑ j, w2 (M (k + 1)) (y k j) * v k j) :
    ∀ k ≤ n, A k = ∑ b ∈ Finset.range k, ∑ j, w2 (M k) (y b j) * v b j := by
  have hMbot : ∀ k ≤ n, M k ≠ ⊥ := by
    intro k
    induction k with
    | zero => exact fun _ => hM0
    | succ k ih => exact fun hk h => ih (by omega) (le_bot_iff.1 (h ▸ hM k (by omega)))
  have hyk : ∀ k ≤ n, ∀ b < k, ∀ j, y b j ≤ M k := by
    intro k
    induction k with
    | zero => exact fun _ b hb => absurd hb (by omega)
    | succ k ih =>
      intro hk b hb j
      rcases Nat.lt_succ_iff_lt_or_eq.1 hb with h | h
      · exact (ih (by omega) b h j).trans (hM k (by omega))
      · subst h; exact hy _ (by omega) j
  intro k
  induction k with
  | zero => intro _; rw [hA0]; simp
  | succ k ih =>
    intro hk
    rw [hA k (by omega), ih (by omega), Finset.sum_range_succ,
      mul_sum_of_nonneg _ _ (w2_nonneg (hM k (by omega))) (w2_ne_top (hM k (by omega)))]
    congr 1
    refine Finset.sum_congr rfl fun b hb => ?_
    rw [mul_sum_of_nonneg _ _ (w2_nonneg (hM k (by omega))) (w2_ne_top (hM k (by omega)))]
    refine Finset.sum_congr rfl fun j _ => ?_
    rw [← mul_assoc, w2_rescale (hMbot k (by omega)) (hyk k (by omega) b (Finset.mem_range.1 hb) j) (hM k (by omega))]

/-! ### One softmax over the union, or one per pattern and a mixture -/

/-- `x` under a mask: minus infinity where the mask does not hold. -/
def msk (P : Prop) [Decidable P] (x : EReal) : EReal := if P then x else ⊥

/-- The bias of a key that belongs to `c` of the patterns: the base-two logarithm of `c`. -/
def bias (c : ℕ) : EReal := if c = 0 then ⊥ else ((Real.log c * (Real.log 2)⁻¹ : ℝ) : EReal)

theorem log2_pos : 0 < Real.log 2 := Real.log_pos (by norm_num)

/-- A score in base-two units, plus the bias. -/
def score2 (x : EReal) (c : ℕ) : EReal := (((Real.log 2)⁻¹ : ℝ) : EReal) * x + bias c

theorem score2_zero (x : EReal) : score2 x 0 = ⊥ := by rw [score2, bias, if_pos rfl, EReal.add_bot]
theorem score2_bot (c : ℕ) : score2 ⊥ c = ⊥ := by
  rw [score2, EReal.coe_mul_bot_of_pos (inv_pos.2 log2_pos), EReal.bot_add]
theorem score2_top (c : ℕ) (hc : c ≠ 0) : score2 ⊤ c = ⊤ := by
  rw [score2, EReal.coe_mul_top_of_pos (inv_pos.2 log2_pos), bias, if_neg hc, EReal.top_add_coe]
theorem score2_coe (x : ℝ) (c : ℕ) (hc : c ≠ 0) :
    score2 x c = (((Real.log 2)⁻¹ * x + Real.log c * (Real.log 2)⁻¹ : ℝ) : EReal) := by
  rw [score2, bias, if_neg hc, ← EReal.coe_mul, ← EReal.coe_add]

/-- A key's weight under the kernel's maximum `m`, in terms of its weight under the largest plain score `M`. -/
theorem w2_score2 (m M : ℝ) (x : EReal) (c : ℕ) (h : c ≠ 0 → x ≤ M) :
    w2 m (score2 x c) = ((Real.exp M * (2 : ℝ) ^ (-m) : ℝ) : EReal) * ((c : EReal) * we M x) := by
  by_cases hc : c = 0
  · subst hc; rw [score2_zero, w2_bot, Nat.cast_zero, zero_mul, mul_zero]
  · have hx := h hc
    induction x using EReal.rec with
    | bot => rw [score2_bot, w2_bot, we_bot, mul_zero, mul_zero]
    | top => exact absurd hx (by simp)
    | coe x =>
      rw [score2_coe x c hc, w2_coe, we_coe, ← EReal.coe_natCast, ← EReal.coe_mul, ← EReal.coe_mul]
      congr 1
      show (2 : ℝ) ^ ((Real.log 2)⁻¹ * x + Real.log c * (Real.log 2)⁻¹ - m) = _
      have hl : Real.log 2 ≠ 0 := log2_pos.ne'
      have hcp : (0 : ℝ) < c := by exact_mod_cast Nat.pos_of_ne_zero hc
      rw [Real.rpow_def_of_pos (by norm_num), Real.rpow_def_of_pos (by norm_num), mul_comm (Real.exp M), mul_assoc,
        ← mul_assoc (Real.exp M), mul_comm (Real.exp M), mul_assoc, ← Real.exp_add]
      have e : Real.log 2 * ((Real.log 2)⁻¹ * x + Real.log c * (Real.log 2)⁻¹ - m)
          = Real.log 2 * (-m) + (Real.log c + (M + (x - M))) := by
        field_simp; ring
      rw [e, Real.exp_add, Real.exp_add, Real.exp_log hcp]

theorem div_zero_zero : Ideal.div 0 0 = ⊥ := by rw [Ideal.div, if_pos rfl, if_neg (lt_irrefl _)]

theorem div_real (x : EReal) (r : ℝ) (h : r ≠ 0) : Ideal.div x r = x * ((r⁻¹ : ℝ) : EReal) := by
  rw [Ideal.div, if_neg (by exact_mod_cast h), EReal.coe_inv]

/-- A common positive factor of numerator and denominator cancels. -/
theorem div_scale (κ D : ℝ) (N : EReal) (hκ : 0 < κ) (hD : 0 < D) :
    Ideal.div ((κ : EReal) * N) ((κ : EReal) * (D : EReal)) = Ideal.div N D := by
  rw [← EReal.coe_mul, div_real _ _ (mul_pos hκ hD).ne', div_real _ _ hD.ne', mul_comm (κ : EReal) N, mul_assoc,
    ← EReal.coe_mul]
  congr 2
  field_simp

/-! ### One pattern's softmax -/

section Branch

variable {J : Type*} [Fintype J] (P : J → Prop) [DecidablePred P] (x v : J → EReal)

/-- The largest score of a pattern. -/
def top1 : EReal := Finset.univ.sup fun j => msk (P j) (x j)
/-- Its softmax denominator, -/
def den1 : EReal := ∑ j, we (top1 P x) (msk (P j) (x j))
/-- its numerator, -/
def num1 : EReal := ∑ j, we (top1 P x) (msk (P j) (x j)) * v j
/-- and its weight in a mixture whose largest score is `M`. -/
def wgt1 (M : EReal) : EReal := den1 P x * Ideal.exp (top1 P x - M)

theorem msk_le_top1 (j : J) : msk (P j) (x j) ≤ top1 P x :=
  Finset.le_sup (f := fun j => msk (P j) (x j)) (Finset.mem_univ j)

theorem le_top1 (j : J) (h : P j) : x j ≤ top1 P x := by
  have := msk_le_top1 P x j; rwa [msk, if_pos h] at this

/-- The largest score is some key's, or every masked score is minus infinity. -/
theorem top1_attained [Nonempty J] : ∃ j, top1 P x = msk (P j) (x j) := by
  obtain ⟨j, _, h⟩ := Finset.exists_mem_eq_sup (Finset.univ : Finset J) Finset.univ_nonempty
    fun j => msk (P j) (x j)
  exact ⟨j, h⟩

/-- The weight of a masked score under any bound, as the mask times the weight of the score. -/
theorem we_msk (M : EReal) (j : J) : we M (msk (P j) (x j)) = (if P j then (1 : EReal) else 0) * we M (x j) := by
  rw [msk]; split
  · rw [one_mul]
  · rw [we_bot, zero_mul]

theorem den1_real (M : ℝ) (hM : top1 P x ≤ M) :
    wgt1 P x M = ∑ j, we M (msk (P j) (x j)) := by
  obtain ⟨r, h0, e⟩ := we_real hM
  rw [wgt1, den1, mul_comm]
  show we M (top1 P x) * _ = _
  rw [mul_sum_of_nonneg _ _ (e ▸ by exact_mod_cast h0) (e ▸ EReal.coe_ne_top r)]
  exact Finset.sum_congr rfl fun j _ => we_rescale (msk_le_top1 P x j) hM (EReal.coe_ne_top M)

/-- A pattern's share of the mixture: its weight times its quotient is its numerator under the common maximum. -/
theorem share_real [Nonempty J] (M : ℝ) (hM : top1 P x ≤ M) :
    wgt1 P x M * Ideal.div (num1 P x v) (den1 P x) = ∑ j, we M (msk (P j) (x j)) * v j := by
  by_cases hb : top1 P x = ⊥
  · have hz : ∀ j, msk (P j) (x j) = ⊥ := fun j => le_bot_iff.1 (hb ▸ msk_le_top1 P x j)
    have : wgt1 P x M = 0 := by rw [wgt1, hb]; show _ * we M ⊥ = 0; rw [we_bot, mul_zero]
    rw [this, zero_mul]
    exact (Finset.sum_eq_zero fun j _ => by rw [hz, we_bot, zero_mul]).symm
  · obtain ⟨t, ht⟩ : ∃ t : ℝ, top1 P x = t := by
      induction h : top1 P x using EReal.rec with
      | bot => exact absurd h hb
      | top => rw [h] at hM; exact absurd hM (by simp)
      | coe t => exact ⟨t, rfl⟩
    choose r hr0 hr using fun j => we_real (msk_le_top1 P x j)
    have hden : den1 P x = ((∑ j, r j : ℝ) : EReal) := by
      rw [den1, ← coe_sum]; exact Finset.sum_congr rfl fun j _ => hr j
    have hpos : 0 < ∑ j, r j := by
      obtain ⟨j, hj⟩ := top1_attained P x
      refine Finset.sum_pos' (fun j _ => hr0 j) ⟨j, Finset.mem_univ j, ?_⟩
      have h1 := hr j
      rw [← hj, ht, we_coe, sub_self, Real.exp_zero] at h1
      have : (1 : ℝ) = r j := by exact_mod_cast h1
      rw [← this]; exact one_pos
    obtain ⟨s, hs0, hs⟩ := we_real hM
    have hw : wgt1 P x M = ((∑ j, r j : ℝ) : EReal) * (s : EReal) := by
      rw [wgt1, hden, ← hs]; rfl
    rw [hw, hden, div_real _ _ hpos.ne', mul_comm ((∑ j, r j : ℝ) : EReal) (s : EReal), mul_mul_mul_comm,
      ← EReal.coe_mul, mul_inv_cancel₀ hpos.ne', EReal.coe_one, mul_one, num1, mul_sum_of_nonneg _ _ (by exact_mod_cast hs0) (EReal.coe_ne_top s)]
    refine Finset.sum_congr rfl fun j _ => ?_
    rw [← mul_assoc, ← hs, we_rescale (msk_le_top1 P x j) hM (EReal.coe_ne_top M)]

end Branch

/-! ### The mixture of three patterns -/

section Mixture

variable {J : Type*} [Fintype J] [Nonempty J] (P Q R : J → Prop) [DecidablePred P] [DecidablePred Q] [DecidablePred R]
  (x v : J → EReal)

/-- In how many of the patterns a key is. -/
def mult (j : J) : ℕ := (if P j then 1 else 0) + (if Q j then 1 else 0) + (if R j then 1 else 0)

/-- The largest score of all patterns. -/
def top3 : EReal := max (max (top1 P x) (top1 Q x)) (top1 R x)

/-- The three softmaxes mixed by their denominators on the common scale. -/
def mix : EReal :=
  Ideal.div
    (wgt1 P x (top3 P Q R x) * Ideal.div (num1 P x v) (den1 P x)
      + wgt1 Q x (top3 P Q R x) * Ideal.div (num1 Q x v) (den1 Q x)
      + wgt1 R x (top3 P Q R x) * Ideal.div (num1 R x v) (den1 R x))
    (wgt1 P x (top3 P Q R x) + wgt1 Q x (top3 P Q R x) + wgt1 R x (top3 P Q R x))

theorem three_weights (M : EReal) (j : J) (u : EReal) (h0 : 0 ≤ we M (x j)) (ht : we M (x j) ≠ ⊤) :
    we M (msk (P j) (x j)) * u + we M (msk (Q j) (x j)) * u + we M (msk (R j) (x j)) * u
      = ((mult P Q R j : ℕ) : EReal) * we M (x j) * u := by
  rw [we_msk, we_msk, we_msk, mult]
  have d : ∀ a b : ℕ, ((a : EReal) * we M (x j)) * u + ((b : EReal) * we M (x j)) * u
      = (((a + b : ℕ) : EReal) * we M (x j)) * u := by
    intro a b
    obtain ⟨r, hr⟩ : ∃ r : ℝ, we M (x j) = r := ⟨(we M (x j)).toReal, (EReal.coe_toReal ht (fun h => by rw [h] at h0; exact absurd h0 (by simp))).symm⟩
    have hr0 : 0 ≤ r := by rw [hr] at h0; exact_mod_cast h0
    rw [hr, ← EReal.coe_natCast, ← EReal.coe_natCast, ← EReal.coe_natCast, ← EReal.coe_mul, ← EReal.coe_mul, ← EReal.coe_mul,
      ← EReal.right_distrib_of_nonneg (by exact_mod_cast mul_nonneg (Nat.cast_nonneg a) hr0)
        (by exact_mod_cast mul_nonneg (Nat.cast_nonneg b) hr0), ← EReal.coe_add]
    congr 2; push_cast; ring
  have c : ∀ S : Prop, ∀ _ : Decidable S, (if S then (1 : EReal) else 0) = (((if S then 1 else 0 : ℕ)) : EReal) := by
    intro S _; split <;> simp
  rw [c, c, c, d, d]

theorem three_weights_one (M : EReal) (j : J) (h0 : 0 ≤ we M (x j)) (ht : we M (x j) ≠ ⊤) :
    we M (msk (P j) (x j)) + we M (msk (Q j) (x j)) + we M (msk (R j) (x j))
      = ((mult P Q R j : ℕ) : EReal) * we M (x j) := by
  simpa using three_weights P Q R x M j 1 h0 ht

/-- THE MIXTURE: with `m` a bound of the biased scores that is not minus infinity, and plus infinity only if one of them
    is, the quotient of the sums weighed in base two is the mixture of the three softmaxes. -/
theorem mixture (m : EReal) (hm : m ≠ ⊥) (hle : ∀ j, score2 (x j) (mult P Q R j) ≤ m)
    (htop : m = ⊤ → ∃ j, score2 (x j) (mult P Q R j) = ⊤) :
    Ideal.div (∑ j, w2 m (score2 (x j) (mult P Q R j)) * v j) (∑ j, w2 m (score2 (x j) (mult P Q R j)))
      = mix P Q R x v := by
  have hP : top1 P x ≤ top3 P Q R x := (le_max_left _ _).trans (le_max_left _ _)
  have hQ : top1 Q x ≤ top3 P Q R x := (le_max_right _ _).trans (le_max_left _ _)
  have hR : top1 R x ≤ top3 P Q R x := le_max_right _ _
  have hx : ∀ j, mult P Q R j ≠ 0 → x j ≤ top3 P Q R x := by
    intro j hj
    by_cases h1 : P j
    · exact (le_top1 P x j h1).trans hP
    by_cases h2 : Q j
    · exact (le_top1 Q x j h2).trans hQ
    by_cases h3 : R j
    · exact (le_top1 R x j h3).trans hR
    · exact absurd (by rw [mult, if_neg h1, if_neg h2, if_neg h3]) hj
  have hat : ∃ j, mult P Q R j ≠ 0 ∧ x j = top3 P Q R x ∨ top3 P Q R x = ⊥ := by
    have one : ∀ (S : J → Prop) [DecidablePred S], (∀ j, S j → mult P Q R j ≠ 0) →
        ∃ j, mult P Q R j ≠ 0 ∧ x j = top1 S x ∨ top1 S x = ⊥ := by
      intro S _ hS
      obtain ⟨j, hj⟩ := top1_attained S x
      by_cases h : S j
      · exact ⟨j, .inl ⟨hS j h, by rw [hj, msk, if_pos h]⟩⟩
      · exact ⟨j, .inr (by rw [hj, msk, if_neg h])⟩
    have aP := one P fun j h => by rw [mult, if_pos h]; omega
    have aQ := one Q fun j h => by rw [mult, if_pos h]; omega
    have aR := one R fun j h => by rw [mult, if_pos h]; omega
    rcases max_choice (max (top1 P x) (top1 Q x)) (top1 R x) with h | h
    · rcases max_choice (top1 P x) (top1 Q x) with h' | h'
      · rw [top3, h, h']; exact aP
      · rw [top3, h, h']; exact aQ
    · rw [top3, h]; exact aR
  unfold mix
  induction hM : top3 P Q R x using EReal.rec with
  | bot =>
    have hb : ∀ j, score2 (x j) (mult P Q R j) = ⊥ := by
      intro j
      by_cases h : mult P Q R j = 0
      · rw [h, score2_zero]
      · have hxj := hx j h
        rw [hM, le_bot_iff] at hxj
        rw [hxj, score2_bot]
    have z : ∀ (S : J → Prop) [DecidablePred S], top1 S x ≤ ⊥ → wgt1 S x ⊥ = 0 := by
      intro S _ h
      rw [wgt1, le_bot_iff.1 h]; show _ * we ⊥ ⊥ = 0; rw [we_bot, mul_zero]
    rw [z P (hM ▸ hP), z Q (hM ▸ hQ), z R (hM ▸ hR)]
    simp only [hb, w2_bot, zero_mul, Finset.sum_const_zero, add_zero]
  | top =>
    have hmt : m = ⊤ := by
      obtain ⟨j, h | h⟩ := hat
      · have := hle j
        rw [h.2, hM, score2_top _ h.1] at this
        exact top_le_iff.1 this
      · rw [hM] at h; exact absurd h (by simp)
    have z : ∀ (S : J → Prop) [DecidablePred S], wgt1 S x ⊤ = 0 := by
      intro S _
      rw [wgt1]; show _ * we ⊤ _ = 0; rw [we_top, mul_zero]
    rw [z P, z Q, z R, hmt]
    simp only [w2_top, zero_mul, Finset.sum_const_zero, add_zero]
  | coe M =>
    obtain ⟨μ, rfl⟩ : ∃ μ : ℝ, m = μ := by
      induction m using EReal.rec with
      | bot => exact absurd rfl hm
      | coe μ => exact ⟨μ, rfl⟩
      | top =>
        obtain ⟨j, hj⟩ := htop rfl
        by_cases h : mult P Q R j = 0
        · rw [h, score2_zero] at hj; exact absurd hj (by simp)
        · have h' := hx j h
          rw [hM] at h'
          induction hxj : x j using EReal.rec with
          | bot => rw [hxj, score2_bot] at hj; exact absurd hj (by simp)
          | top => rw [hxj] at h'; exact absurd h' (by simp)
          | coe t => rw [hxj, score2_coe _ _ h] at hj; exact absurd hj (EReal.coe_ne_top _)
    rw [hM] at hP hQ hR hx
    rw [share_real P x v M hP, share_real Q x v M hQ, share_real R x v M hR,
      den1_real P x M hP, den1_real Q x M hQ, den1_real R x M hR,
      ← Finset.sum_add_distrib, ← Finset.sum_add_distrib, ← Finset.sum_add_distrib, ← Finset.sum_add_distrib]
    set κ : ℝ := Real.exp M * (2 : ℝ) ^ (-μ) with hκ
    have hκp : 0 < κ := mul_pos (Real.exp_pos _) (Real.rpow_pos_of_pos (by norm_num) _)
    -- the weights of the keys that count, real
    have hwr : ∀ j, ∃ r : ℝ, 0 ≤ r ∧ ((mult P Q R j : ℕ) : EReal) * we M (x j) = r ∧
        we M (msk (P j) (x j)) + we M (msk (Q j) (x j)) + we M (msk (R j) (x j)) = r ∧
        we M (msk (P j) (x j)) * v j + we M (msk (Q j) (x j)) * v j + we M (msk (R j) (x j)) * v j = r * v j := by
      intro j
      by_cases h : mult P Q R j = 0
      · have hn : ¬ P j ∧ ¬ Q j ∧ ¬ R j := by
          rw [mult] at h
          refine ⟨fun p => ?_, fun p => ?_, fun p => ?_⟩ <;> · rw [if_pos p] at h; omega
        refine ⟨0, le_rfl, ?_, ?_, ?_⟩
        · rw [h, Nat.cast_zero, zero_mul]; rfl
        · rw [msk, msk, msk, if_neg hn.1, if_neg hn.2.1, if_neg hn.2.2, we_bot]; simp
        · rw [msk, msk, msk, if_neg hn.1, if_neg hn.2.1, if_neg hn.2.2, we_bot]; simp
      · obtain ⟨r, h0, e⟩ := we_real (hx j h)
        have e0 : 0 ≤ we M (x j) := e ▸ by exact_mod_cast h0
        have et : we M (x j) ≠ ⊤ := e ▸ EReal.coe_ne_top r
        have e2 : ((mult P Q R j : ℕ) : EReal) * we M (x j) = ((mult P Q R j * r : ℝ) : EReal) := by
          rw [e, EReal.coe_mul, EReal.coe_natCast]
        refine ⟨mult P Q R j * r, mul_nonneg (Nat.cast_nonneg _) h0, e2, ?_, ?_⟩
        · rw [three_weights_one P Q R x M j e0 et, e2]
        · rw [three_weights P Q R x M j (v j) e0 et, e2]
    choose r hr0 hr hr1 hrv using hwr
    have hpos : 0 < ∑ j, r j := by
      obtain ⟨j, h | h⟩ := hat
      · refine Finset.sum_pos' (fun j _ => hr0 j) ⟨j, Finset.mem_univ j, ?_⟩
        have h1 := hr j
        rw [h.2, hM, we_coe, sub_self, Real.exp_zero, EReal.coe_one, mul_one, ← EReal.coe_natCast] at h1
        have h2 : ((mult P Q R j : ℕ) : ℝ) = r j := by exact_mod_cast h1
        rw [← h2]; exact_mod_cast Nat.pos_of_ne_zero h.1
      · rw [hM] at h; exact absurd h (EReal.coe_ne_bot M)
    have eN : (∑ j, w2 μ (score2 (x j) (mult P Q R j)) * v j) = (κ : EReal) * ∑ j, (r j : EReal) * v j := by
      rw [mul_sum_of_nonneg _ _ (by exact_mod_cast hκp.le) (EReal.coe_ne_top κ)]
      refine Finset.sum_congr rfl fun j _ => ?_
      rw [w2_score2 μ M (x j) _ (hx j), hr j, mul_assoc]
    have eD : (∑ j, w2 μ (score2 (x j) (mult P Q R j))) = (κ : EReal) * ((∑ j, r j : ℝ) : EReal) := by
      rw [← coe_sum, mul_sum_of_nonneg _ _ (by exact_mod_cast hκp.le) (EReal.coe_ne_top κ)]
      refine Finset.sum_congr rfl fun j _ => ?_
      rw [w2_score2 μ M (x j) _ (hx j), hr j]
    rw [eN, eD, div_scale κ _ _ hκp hpos, ← coe_sum]
    congr 1
    · exact Finset.sum_congr rfl fun j _ => (hrv j).symm
    · exact Finset.sum_congr rfl fun j _ => (hr1 j).symm

end Mixture

end Cert.Mix

end
-- ==== Proof.Rows.lean ====
/- The payloads of the attention kernel on the extended reals, entry by entry. -/
module

public import proofs.«01_k».proof.Proof.Body
public import proofs.«01_k».proof.Proof.Mix
public import Idealize.ShloMosaic.Lib.Pointwise
public import Idealize.ShloMosaic.Lib.IdealHost

@[expose] public section

set_option maxRecDepth 16384

noncomputable section

namespace Cert.KernelIdeal.Att

open Cert.KernelIdeal Cert.KernelIdeal.Gen Idealize.ShloMosaic Idealize.ShloMosaic.TcCoe Idealize.SL.Sem

/-- The pattern of minus infinity. -/
theorem negInf : Ideal.ofBits .f32 0xFF800000#32 = (⊥ : EReal) := by simp [Ideal.ofBits, Ideal.ieee]

/-- The number the running maximum starts from is not minus infinity. -/
theorem start_ne : Ideal.ofBits .f32 0xF149F2CA#32 ≠ (⊥ : EReal) := by
  simp [Ideal.ofBits, Ideal.ieee, -EReal.coe_mul]

theorem start_ne_top : Ideal.ofBits .f32 0xF149F2CA#32 ≠ (⊤ : EReal) := by
  simp [Ideal.ofBits, Ideal.ieee, -EReal.coe_mul]

/-- The score, in base two, of key `j` of a block for row `r` of the two heads' queries. -/
def sc (kb : Vec Ideal S1x512x128 .bf16) (q : Vec Ideal S1024x128 .bf16) (bb : Vec Ideal S1x512x512 .f32) (r : Fin 1024)
    (j : Fin 512) : EReal :=
  ∑ x, q (ix2 r x) * kb (ix3 0 j x) + bb (ix3 0 ⟨r.val % 512, Nat.mod_lt _ (by norm_num)⟩ j)

theorem pay9_at (kb : Vec Ideal S1x512x128 .bf16) (q : Vec Ideal S1024x128 .bf16) (bb : Vec Ideal S1x512x512 .f32)
    (r : Fin 1024) (j : Fin 512) : k0_pay9 kb q bb (ix2 r j) = sc kb q bb r j := by
  unfold sc
  pointwise [k0_pay9]

/-- Lane `j` of the four tiles of 128 keys a block's scores are cut into. -/
def lane (t : Fin 4) (j : Fin 128) : Fin 512 := ⟨t.val * 128 + j.val, by omega⟩

theorem pay10_at (kb : Vec Ideal S1x512x128 .bf16) (q : Vec Ideal S1024x128 .bf16) (bb : Vec Ideal S1x512x512 .f32)
    (r : Fin 1024) (j : Fin 128) : k0_pay10 kb q bb (ix2 r j) = sc kb q bb r (lane 0 j) := by
  rw [← pay9_at]
  unfold k0_pay10
  generalize k0_pay9 kb q bb = y
  pointwise
  exact congrArg y (congrArg _ (Fin.ext (by simp [lane])))

theorem pay11_at (kb : Vec Ideal S1x512x128 .bf16) (q : Vec Ideal S1024x128 .bf16) (bb : Vec Ideal S1x512x512 .f32)
    (r : Fin 1024) (j : Fin 128) : k0_pay11 kb q bb (ix2 r j) = sc kb q bb r (lane 1 j) := by
  rw [← pay9_at]
  unfold k0_pay11
  generalize k0_pay9 kb q bb = y
  pointwise
  exact congrArg y (congrArg _ (Fin.ext (by simp [lane])))

theorem pay12_at (kb : Vec Ideal S1x512x128 .bf16) (q : Vec Ideal S1024x128 .bf16) (bb : Vec Ideal S1x512x512 .f32)
    (r : Fin 1024) (j : Fin 128) : k0_pay12 kb q bb (ix2 r j) = sc kb q bb r (lane 2 j) := by
  rw [← pay9_at]
  unfold k0_pay12
  generalize k0_pay9 kb q bb = y
  pointwise
  exact congrArg y (congrArg _ (Fin.ext (by simp [lane])))

theorem pay13_at (kb : Vec Ideal S1x512x128 .bf16) (q : Vec Ideal S1024x128 .bf16) (bb : Vec Ideal S1x512x512 .f32)
    (r : Fin 1024) (j : Fin 128) : k0_pay13 kb q bb (ix2 r j) = sc kb q bb r (lane 3 j) := by
  rw [← pay9_at]
  unfold k0_pay13
  generalize k0_pay9 kb q bb = y
  pointwise
  exact congrArg y (congrArg _ (Fin.ext (by simp [lane])))

/-- The largest score of a block for row `r`. -/
def top (kb : Vec Ideal S1x512x128 .bf16) (q : Vec Ideal S1024x128 .bf16) (bb : Vec Ideal S1x512x512 .f32) (r : Fin 1024) : EReal :=
  Finset.fold max ⊥ (fun x => max (max (max (sc kb q bb r (lane 0 x)) (sc kb q bb r (lane 1 x)))
    (sc kb q bb r (lane 2 x))) (sc kb q bb r (lane 3 x))) Finset.univ

theorem pay14_at (kb : Vec Ideal S1x512x128 .bf16) (q : Vec Ideal S1024x128 .bf16) (bb : Vec Ideal S1x512x512 .f32)
    (s : Vec Ideal S1024x128 .f32) (r : Fin 1024) (j : Fin 128) :
    k0_pay14 kb q bb s (ix2 r j) = max (s (ix2 r j)) (top kb q bb r) := by
  unfold top
  simp only [← pay10_at, ← pay11_at, ← pay12_at, ← pay13_at, ← negInf]
  unfold k0_pay14
  generalize k0_pay10 kb q bb = y0
  generalize k0_pay11 kb q bb = y1
  generalize k0_pay12 kb q bb = y2
  generalize k0_pay13 kb q bb = y3
  pointwise

theorem lane_exists (j : Fin 512) : ∃ t x, lane t x = j :=
  ⟨⟨j.val / 128, by omega⟩, ⟨j.val % 128, by omega⟩, Fin.ext (by simp only [lane]; omega)⟩

/-- No score of the block lies above `top`. -/
theorem le_top (kb : Vec Ideal S1x512x128 .bf16) (q : Vec Ideal S1024x128 .bf16) (bb : Vec Ideal S1x512x512 .f32)
    (r : Fin 1024) (j : Fin 512) : sc kb q bb r j ≤ top kb q bb r := by
  obtain ⟨t, x, rfl⟩ := lane_exists j
  unfold top
  refine (Finset.le_fold_max _).2 (Or.inr ⟨x, Finset.mem_univ _, ?_⟩)
  fin_cases t <;> simp

/-- If `top` is infinite, so is the score of some key. -/
theorem top_attained (kb : Vec Ideal S1x512x128 .bf16) (q : Vec Ideal S1024x128 .bf16) (bb : Vec Ideal S1x512x512 .f32)
    (r : Fin 1024) (h : top kb q bb r = ⊤) : ∃ j, sc kb q bb r j = ⊤ := by
  unfold top at h
  rcases (Finset.le_fold_max (⊤ : EReal)).1 h.ge with h | ⟨x, -, h⟩
  · simp at h
  · rcases le_max_iff.1 h with h | h
    · rcases le_max_iff.1 h with h | h
      · rcases le_max_iff.1 h with h | h
        · exact ⟨_, top_le_iff.1 h⟩
        · exact ⟨_, top_le_iff.1 h⟩
      · exact ⟨_, top_le_iff.1 h⟩
    · exact ⟨_, top_le_iff.1 h⟩

section Step

variable (kb vb : Vec Ideal S1x512x128 .bf16) (q : Vec Ideal S1024x128 .bf16) (bb : Vec Ideal S1x512x512 .f32) (s : St Ideal)
  (r : Fin 1024)

theorem step_max (j : Fin 128) : (step kb vb q bb s).1 (ix2 r j) = max (s.1 (ix2 r j)) (top kb q bb r) := by
  show k0_pay3 (k0_pay14 kb q bb s.1) (ix2 r j) = _
  rw [← pay14_at]
  generalize k0_pay14 kb q bb s.1 = y
  pointwise [k0_pay3]

theorem pay15_at (j : Fin 128) : k0_pay15 kb q bb s.1 (ix2 r j)
    = Mix.w2 (max (s.1 (ix2 r j)) (top kb q bb r)) (sc kb q bb r (lane 0 j)) := by
  rw [← pay14_at, ← pay10_at]
  unfold k0_pay15 Mix.w2
  generalize k0_pay14 kb q bb s.1 = y
  generalize k0_pay10 kb q bb = z
  pointwise
  rfl

theorem pay16_at (j : Fin 128) : k0_pay16 kb q bb s.1 (ix2 r j)
    = Mix.w2 (max (s.1 (ix2 r j)) (top kb q bb r)) (sc kb q bb r (lane 1 j)) := by
  rw [← pay14_at, ← pay11_at]
  unfold k0_pay16 Mix.w2
  generalize k0_pay14 kb q bb s.1 = y
  generalize k0_pay11 kb q bb = z
  pointwise
  rfl

theorem pay17_at (j : Fin 128) : k0_pay17 kb q bb s.1 (ix2 r j)
    = Mix.w2 (max (s.1 (ix2 r j)) (top kb q bb r)) (sc kb q bb r (lane 2 j)) := by
  rw [← pay14_at, ← pay12_at]
  unfold k0_pay17 Mix.w2
  generalize k0_pay14 kb q bb s.1 = y
  generalize k0_pay12 kb q bb = z
  pointwise
  rfl

theorem pay18_at (j : Fin 128) : k0_pay18 kb q bb s.1 (ix2 r j)
    = Mix.w2 (max (s.1 (ix2 r j)) (top kb q bb r)) (sc kb q bb r (lane 3 j)) := by
  rw [← pay14_at, ← pay13_at]
  unfold k0_pay18 Mix.w2
  generalize k0_pay14 kb q bb s.1 = y
  generalize k0_pay13 kb q bb = z
  pointwise
  rfl

theorem pay19_at (j : Fin 128) : k0_pay19 kb q bb s.1 (ix2 r j)
    = Mix.w2 (max (s.1 (ix2 r j)) (top kb q bb r)) (s.1 (ix2 r j)) := by
  rw [← pay14_at]
  unfold k0_pay19 Mix.w2
  generalize k0_pay14 kb q bb s.1 = y
  pointwise
  rfl

theorem pay20_at (j : Fin 128) : k0_pay20 kb q bb s.1 (ix2 r j)
    = ∑ t : Fin 4, Mix.w2 (max (s.1 (ix2 r j)) (top kb q bb r)) (sc kb q bb r (lane t j)) := by
  rw [Fin.sum_univ_four, ← pay15_at, ← pay16_at, ← pay17_at, ← pay18_at]
  unfold k0_pay20
  generalize k0_pay15 kb q bb s.1 = y0
  generalize k0_pay16 kb q bb s.1 = y1
  generalize k0_pay17 kb q bb s.1 = y2
  generalize k0_pay18 kb q bb s.1 = y3
  pointwise

theorem step_den (j : Fin 128) : (step kb vb q bb s).2.1 (ix2 r j)
    = Mix.w2 (max (s.1 (ix2 r j)) (top kb q bb r)) (s.1 (ix2 r j)) * s.2.1 (ix2 r j)
      + ∑ t : Fin 4, Mix.w2 (max (s.1 (ix2 r j)) (top kb q bb r)) (sc kb q bb r (lane t j)) := by
  rw [← pay20_at, ← pay19_at]
  show k0_pay1 (k0_pay19 kb q bb s.1) (k0_pay20 kb q bb s.1) s.2.1 (ix2 r j) = _
  generalize k0_pay19 kb q bb s.1 = y
  generalize k0_pay20 kb q bb s.1 = z
  pointwise [k0_pay1]

theorem pay2_at (v : FVec Ideal S512x128 .bf16) (y0 y1 y2 y3 a o : FVec Ideal S1024x128 .f32) (j : Fin 128) :
    k0_pay2 v y0 y1 y2 y3 a o (ix2 r j) = a (ix2 r j) * o (ix2 r j)
      + ∑ x : Fin 512, (if h : x.val < 128 then y0 (ix2 r ⟨x.val, h⟩) else if h : x.val - 128 < 128 then y1 (ix2 r ⟨x.val - 128, h⟩)
          else if h : x.val - 128 - 128 < 128 then y2 (ix2 r ⟨x.val - 128 - 128, h⟩)
          else y3 (ix2 r ⟨x.val - 128 - 128 - 128, by omega⟩)) * v (ix2 x j) := by
  pointwise [k0_pay2]

theorem pay8_at (x : Fin 512) (j : Fin 128) : k0_pay8 vb (ix2 x j) = vb (ix3 0 x j) := by
  pointwise [k0_pay8]

/-- With the running maximum the same, `M`, in every lane: the numerators after a block. -/
theorem step_num (M : EReal) (hM : ∀ x, s.1 (ix2 r x) = M) (j : Fin 128) : (step kb vb q bb s).2.2 (ix2 r j)
    = Mix.w2 (max M (top kb q bb r)) M * s.2.2 (ix2 r j)
      + ∑ x : Fin 512, Mix.w2 (max M (top kb q bb r)) (sc kb q bb r x) * vb (ix3 0 x j) := by
  show k0_pay2 (k0_pay8 vb) (k0_pay15 kb q bb s.1) (k0_pay16 kb q bb s.1) (k0_pay17 kb q bb s.1) (k0_pay18 kb q bb s.1)
     (k0_pay19 kb q bb s.1) s.2.2 (ix2 r j) = _
  rw [pay2_at, pay19_at, hM]
  congr 1
  refine Finset.sum_congr rfl fun x _ => ?_
  rw [pay8_at]
  congr 1
  split
  · rw [pay15_at, hM]
    congr 2
    exact Fin.ext (by simp [lane])
  · split
    · rw [pay16_at, hM]
      congr 2
      exact Fin.ext (by simp [lane]; omega)
    · split
      · rw [pay17_at, hM]
        congr 2
        exact Fin.ext (by simp [lane]; omega)
      · rw [pay18_at, hM]
        congr 2
        exact Fin.ext (by simp [lane]; omega)

end Step

/-- The quotient the kernel stores: the first head's in its 64 columns, the second head's in its own. -/
theorem pay7_at (a o : FVec Ideal S1024x128 .f32) (r : Fin 512) (j : Fin 128) (h : Fin 1024)
    (hh : h.val = if j.val < 64 then r.val else 512 + r.val) :
    k0_pay7 (F := Ideal) k0_pay35 a o (ix3 0 r j) = Ideal.div (a (ix2 h j)) (∑ x, o (ix2 h x)) := by
  pointwise [k0_pay7, k0_pay35]
  have hc : ∀ j : Fin 128, IntOp.cmpi .slt (BitVec.ofNat 32 j.val) 64#32 = if j.val < 64 then 1#1 else 0#1 := by decide +kernel
  rw [hc]
  split at hh <;> rename_i hj
  · rw [if_pos hj]
    rw [show h = (⟨r.val, by omega⟩ : Fin 1024) from Fin.ext hh]
    rfl
  · rw [if_neg hj]
    rw [show h = (⟨512 + r.val, by omega⟩ : Fin 1024) from Fin.ext hh]
    rfl

section Chain

/-! ### The points of the launch: which blocks of keys one visits -/

/-- A point of the launch with block of queries `n`: what follows depends on nothing else of a point. -/
def pt (n : Fin 16) : grid0.Coords
  | ⟨0, _⟩ => (⟨0, by decide⟩ : Fin 2)
  | ⟨1, _⟩ => (⟨0, by decide⟩ : Fin 6)
  | ⟨2, _⟩ => n

/-- A block of queries visits its own block of keys and the four before it, as far as there are any. -/
theorem trips_eq (i : grid0.Coords) : (k0_t1_loop i).trips = min (i 2).val 4 + 1 := by
  have h : ∀ n : Fin 16, (k0_t1_loop (pt n)).trips = min n.val 4 + 1 := by decide +kernel
  exact h (i 2)

theorem off1_eq (i : grid0.Coords) (k : Fin (k0_t1_loop i).trips) : k0_off1 i k = ![0, ((i 2).val - 4 + k.val) * 512, 0] := by
  have h : ∀ n : Fin 16, ∀ k : Fin (k0_t1_loop (pt n)).trips, k0_off1 (pt n) k = ![0, (n.val - 4 + k.val) * 512, 0] := by
    decide +kernel
  exact h (i 2) k

theorem off2_eq (i : grid0.Coords) (k : Fin (k0_t1_loop i).trips) : k0_off2 i k = ![min (i 2).val 4 - k.val, 0, 0] := by
  have h : ∀ n : Fin 16, ∀ k : Fin (k0_t1_loop (pt n)).trips, k0_off2 (pt n) k = ![min n.val 4 - k.val, 0, 0] := by
    decide +kernel
  exact h (i 2) k

variable (i : grid0.Coords) (x1 x2 : Vec Ideal S1x8192x128 .bf16) (q : Vec Ideal S1024x128 .bf16) (x3 : Vec Ideal S5x512x512 .f32)
  (r : Fin 1024)

/-- The running maximum of row `r` after `k` blocks. -/
def mx : ℕ → EReal
  | 0 => Ideal.ofBits .f32 0xF149F2CA#32
  | k + 1 => if h : k < (k0_t1_loop i).trips then max (mx k) (top (keys i ⟨k, h⟩ x1) q (biasBlk i ⟨k, h⟩ x3) r) else mx k

/-- The score of key `j` of the block visited in trip `k`. -/
def ys (k : ℕ) (j : Fin 512) : EReal :=
  if h : k < (k0_t1_loop i).trips then sc (keys i ⟨k, h⟩ x1) q (biasBlk i ⟨k, h⟩ x3) r j else ⊥

/-- Column `d` of the value of that key. -/
def vs (d : Fin 128) (k : ℕ) (j : Fin 512) : EReal :=
  if h : k < (k0_t1_loop i).trips then keys i ⟨k, h⟩ x2 (ix3 0 j d) else 0

theorem mx_succ (k : ℕ) (h : k < (k0_t1_loop i).trips) :
    mx i x1 q x3 r (k + 1) = max (mx i x1 q x3 r k) (top (keys i ⟨k, h⟩ x1) q (biasBlk i ⟨k, h⟩ x3) r) := by
  conv_lhs => unfold mx
  rw [dif_pos h]

theorem chain_succ (k : ℕ) (h : k < (k0_t1_loop i).trips) : chain i x1 x2 q x3 (k + 1)
    = step (keys i ⟨k, h⟩ x1) (keys i ⟨k, h⟩ x2) q (biasBlk i ⟨k, h⟩ x3) (chain i x1 x2 q x3 k) := by
  conv_lhs => unfold chain
  rw [dif_pos h]

theorem chain_max (k : ℕ) (x : Fin 128) : (chain i x1 x2 q x3 k).1 (ix2 r x) = mx i x1 q x3 r k := by
  induction k with
  | zero =>
    show k0_pay39 (F := Ideal) (ix2 r x) = Ideal.ofBits .f32 0xF149F2CA#32
    pointwise [k0_pay39]
  | succ k ih =>
    unfold chain mx
    split
    · rw [step_max, ih]
    · exact ih

theorem mx_mono (k : ℕ) : mx i x1 q x3 r k ≤ mx i x1 q x3 r (k + 1) := by
  conv_rhs => unfold mx
  split
  · exact le_max_left _ _
  · exact le_rfl

theorem ys_le (k : ℕ) (j : Fin 512) : ys i x1 q x3 r k j ≤ mx i x1 q x3 r (k + 1) := by
  unfold ys mx
  split
  · exact (le_top _ _ _ _ _).trans (le_max_right _ _)
  · exact bot_le

theorem mx_ne (k : ℕ) : mx i x1 q x3 r k ≠ ⊥ := by
  induction k with
  | zero => exact start_ne
  | succ k ih => exact fun h => ih (le_bot_iff.1 ((mx_mono i x1 q x3 r k).trans h.le))

theorem mx_le (n k : ℕ) (h : k ≤ n) : mx i x1 q x3 r k ≤ mx i x1 q x3 r n := monotone_nat_of_le_succ (mx_mono i x1 q x3 r) h

/-- If the running maximum is infinite, so is the score of some key already visited. -/
theorem mx_attained (k : ℕ) (h : mx i x1 q x3 r k = ⊤) : ∃ b < k, ∃ j, b < (k0_t1_loop i).trips ∧ ys i x1 q x3 r b j = ⊤ := by
  induction k with
  | zero => exact absurd h start_ne_top
  | succ k ih =>
    unfold mx at h
    split at h
    · rename_i hk
      rcases max_eq_top.1 h with h | h
      · obtain ⟨b, hb, j, hj⟩ := ih h
        exact ⟨b, by omega, j, hj⟩
      · obtain ⟨j, hj⟩ := top_attained _ _ _ _ h
        exact ⟨k, by omega, j, hk, by unfold ys; rw [dif_pos hk]; exact hj⟩
    · obtain ⟨b, hb, j, hj⟩ := ih h
      exact ⟨b, by omega, j, hj⟩

/-- The numerators after the loop: every visited key's weight times its value. -/
theorem chain_num (d : Fin 128) (n : ℕ) (hn : n ≤ (k0_t1_loop i).trips) : (chain i x1 x2 q x3 n).2.2 (ix2 r d)
    = ∑ b ∈ Finset.range n, ∑ j, Mix.w2 (mx i x1 q x3 r n) (ys i x1 q x3 r b j) * vs i x2 d b j := by
  refine Mix.online (mx i x1 q x3 r) (ys i x1 q x3 r) (vs i x2 d) (fun k => (chain i x1 x2 q x3 k).2.2 (ix2 r d)) start_ne n
    (fun k _ => mx_mono i x1 q x3 r k) (fun k _ j => ys_le i x1 q x3 r k j) ?_ ?_ n le_rfl
  · show k0_pay41 (F := Ideal) (ix2 r d) = 0
    pointwise [k0_pay41]
  · intro k hk
    have hk' : k < (k0_t1_loop i).trips := by omega
    show (chain i x1 x2 q x3 (k + 1)).2.2 (ix2 r d) = _
    rw [chain_succ _ _ _ _ _ k hk', step_num _ _ _ _ _ r (mx i x1 q x3 r k) (chain_max i x1 x2 q x3 r k), mx_succ _ _ _ _ _ k hk']
    unfold ys vs
    simp only [dif_pos hk']

/-- The denominators after the loop, one sum per lane. -/
theorem chain_den (x : Fin 128) (n : ℕ) (hn : n ≤ (k0_t1_loop i).trips) : (chain i x1 x2 q x3 n).2.1 (ix2 r x)
    = ∑ b ∈ Finset.range n, ∑ t : Fin 4, Mix.w2 (mx i x1 q x3 r n) (ys i x1 q x3 r b (lane t x)) := by
  have := Mix.online (mx i x1 q x3 r) (fun b (t : Fin 4) => ys i x1 q x3 r b (lane t x)) (fun _ _ => 1)
    (fun k => (chain i x1 x2 q x3 k).2.1 (ix2 r x)) start_ne n
    (fun k _ => mx_mono i x1 q x3 r k) (fun k _ j => ys_le i x1 q x3 r k _) ?_ ?_ n le_rfl
  · simpa only [mul_one] using this
  · show k0_pay40 (F := Ideal) (ix2 r x) = 0
    pointwise [k0_pay40]
  · intro k hk
    have hk' : k < (k0_t1_loop i).trips := by omega
    show (chain i x1 x2 q x3 (k + 1)).2.1 (ix2 r x) = _
    rw [chain_succ _ _ _ _ _ k hk', step_den, chain_max, mx_succ _ _ _ _ _ k hk']
    unfold ys
    simp only [dif_pos hk', mul_one]

/-- A sum over the four tiles and their lanes is a sum over the block's keys. -/
theorem sum_lanes (f : Fin 512 → EReal) : ∑ x : Fin 128, ∑ t : Fin 4, f (lane t x) = ∑ j, f j := by
  rw [← Finset.sum_product' (f := fun x t => f (lane t x)), Finset.univ_product_univ]
  refine Fintype.sum_bijective (fun p : Fin 128 × Fin 4 => lane p.2 p.1) ⟨?_, ?_⟩ _ _ fun _ => rfl
  · rintro ⟨a, b⟩ ⟨c, d⟩ h
    have h1 := congrArg Fin.val (show lane b a = lane d c from h)
    simp only [lane] at h1
    exact Prod.ext (Fin.ext (show a.val = c.val by omega)) (Fin.ext (show b.val = d.val by omega))
  · intro j
    obtain ⟨t, x, h⟩ := lane_exists j
    exact ⟨(x, t), h⟩

theorem chain_den_sum (n : ℕ) (hn : n ≤ (k0_t1_loop i).trips) : ∑ x, (chain i x1 x2 q x3 n).2.1 (ix2 r x)
    = ∑ b ∈ Finset.range n, ∑ j, Mix.w2 (mx i x1 q x3 r n) (ys i x1 q x3 r b j) := by
  simp only [chain_den i x1 x2 q x3 r _ n hn]
  rw [Finset.sum_comm]
  exact Finset.sum_congr rfl fun b _ => sum_lanes fun j => Mix.w2 (mx i x1 q x3 r n) (ys i x1 q x3 r b j)

end Chain

end Cert.KernelIdeal.Att
-- ==== Proof.Pat.lean ====
/- Which keys a query sees: the three patterns of a window and a dilation, as natural numbers and as the programs' own
   32-bit words. -/
module

public import Idealize.ShloMosaic.Lib.Affine
public import Idealize.ShloMosaic.Lib.IdealHost
public import proofs.«01_k».proof.Proof.Mix

@[expose] public section

noncomputable section

namespace Cert.Pat

open Idealize.ShloMosaic

/-- Query `p` sees key `j` in the pattern of window `w` and dilation `d`. -/
def Sees (w d p j : ℕ) : Prop := j ≤ p ∧ p - j ≤ w ∧ d ∣ p - j

instance (w d p j : ℕ) : Decidable (Sees w d p j) := by unfold Sees; infer_instance

/-- Only the distance counts. -/
theorem sees_shift (w d a p j : ℕ) : Sees w d (a + p) (a + j) ↔ Sees w d p j := by
  unfold Sees
  rw [Nat.add_sub_add_left, Nat.add_le_add_iff_left]

/-- The same as the programs' words say it. -/
def word (w d : ℕ) (x : BitVec 32) : BitVec 1 :=
  IntOp.andi (IntOp.andi (IntOp.cmpi .sge x 0#32) (IntOp.cmpi .sle x (BitVec.ofNat 32 w)))
    (IntOp.cmpi .eq (IntOp.remsi .host x (BitVec.ofNat 32 d)) 0#32)

theorem toInt_small (n : ℕ) (hn : n < 2 ^ 31) : (BitVec.ofNat 32 n).toInt = n := by
  rw [BitVec.toInt_eq_toNat_of_lt] <;> rw [BitVec.toNat_ofNat] <;> omega

theorem word_eq (w d p j : ℕ) (hp : p < 2 ^ 20) (hj : j < 2 ^ 20) (hw : w < 2 ^ 31) (hd : 0 < d) (hd' : d < 2 ^ 31) :
    word w d (IntOp.subi (BitVec.ofNat 32 p) (BitVec.ofNat 32 j)) = if Sees w d p j then 1#1 else 0#1 := by
  have h1 : word w d (IntOp.subi (BitVec.ofNat 32 p) (BitVec.ofNat 32 j)) = 1#1 ↔ Sees w d p j := by
    unfold word Sees
    rw [IntOp.andi_eq_one, IntOp.andi_eq_one, IntOp.cmpi_sge, IntOp.cmpi_sle, IntOp.cmpi_eq, toInt_small w hw]
    by_cases hjp : j ≤ p
    · have hx : IntOp.subi (BitVec.ofNat 32 p) (BitVec.ofNat 32 j) = BitVec.ofNat 32 (p - j) := by
        apply BitVec.eq_of_toNat_eq
        show (BitVec.ofNat 32 p - BitVec.ofNat 32 j).toNat = _
        rw [BitVec.toNat_sub]
        simp only [BitVec.toNat_ofNat]
        omega
      have hn : (BitVec.ofNat 32 (p - j)).toNat = p - j := by rw [BitVec.toNat_ofNat]; omega
      rw [hx, IntOp.remsi_eq_zero_iff .host (by omega) d hd (by omega), hn, toInt_small (p - j) (by omega)]
      constructor
      · rintro ⟨⟨-, h⟩, h'⟩
        exact ⟨hjp, by omega, h'⟩
      · rintro ⟨-, h, h'⟩
        exact ⟨⟨by rw [show (0#32 : BitVec 32).toInt = 0 from by decide]; omega, by omega⟩, h'⟩
    · have hx : (IntOp.subi (BitVec.ofNat 32 p) (BitVec.ofNat 32 j)).toInt < 0 := by
        have h2 : (BitVec.ofNat 32 p - BitVec.ofNat 32 j).toNat = 2 ^ 32 - j + p := by
          rw [BitVec.toNat_sub]
          simp only [BitVec.toNat_ofNat]
          omega
        show (BitVec.ofNat 32 p - BitVec.ofNat 32 j).toInt < 0
        rw [BitVec.toInt_eq_toNat_cond, h2]
        split <;> omega
      constructor
      · rintro ⟨⟨h, -⟩, -⟩
        rw [show (0#32 : BitVec 32).toInt = 0 from by decide] at h
        omega
      · rintro ⟨h, -⟩
        exact absurd h hjp
  by_cases h : Sees w d p j
  · rw [if_pos h]; exact h1.2 h
  · rw [if_neg h]
    have := mt h1.1 h
    revert this
    generalize word w d _ = b
    revert b
    decide

/-- The base-two logarithm of how many patterns see the key, as the table of biases states it. -/
theorem log_count (a b c : Prop) [Decidable a] [Decidable b] [Decidable c] :
    Ideal.div (Ideal.log (FloatOps.sitofp (F := Ideal) FTy.f32
      (IntOp.addi (IntOp.addi (IntOp.addi (0#32) (BitVec.setWidth 32 (if a then 1#1 else 0#1)))
        (BitVec.setWidth 32 (if b then 1#1 else 0#1))) (BitVec.setWidth 32 (if c then 1#1 else 0#1)))))
      (Ideal.log (Ideal.ofBits FTy.f32 1073741824#32))
    = Mix.bias ((if a then 1 else 0) + (if b then 1 else 0) + (if c then 1 else 0)) := by
  have h2 : Ideal.ofBits FTy.f32 1073741824#32 = ((2 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then (⊥ : EReal) else (Real.log 2 : EReal)) = _
    rw [if_neg (by norm_num)]
  have key : ∀ n : ℕ, n < 4 → Ideal.div (Ideal.log (((n : ℤ) : ℝ) : EReal)) (Ideal.log (Ideal.ofBits FTy.f32 1073741824#32))
      = Mix.bias n := by
    intro n hn
    have hlog2 : (0 : ℝ) < Real.log 2 := Real.log_pos (by norm_num)
    rw [h2, hl]
    unfold Mix.bias Ideal.div
    rw [if_neg (by rw [EReal.coe_eq_zero]; exact hlog2.ne')]
    by_cases h0 : n = 0
    · subst h0
      rw [if_pos rfl]
      have : Ideal.log ((((0 : ℕ) : ℤ) : ℝ) : EReal) = ⊥ := by
        show (if (((0 : ℕ) : ℤ) : ℝ) ≤ 0 then (⊥ : EReal) else _) = ⊥
        rw [if_pos (by simp)]
      rw [this, ← EReal.coe_inv]
      exact EReal.bot_mul_coe_of_pos (inv_pos.2 hlog2)
    · rw [if_neg h0]
      have : Ideal.log (((n : ℤ) : ℝ) : EReal) = ((Real.log n : ℝ) : EReal) := by
        show (if ((n : ℤ) : ℝ) ≤ 0 then (⊥ : EReal) else (Real.log ((n : ℤ) : ℝ) : EReal)) = _
        rw [if_neg (by push_cast; exact not_le.2 (by exact_mod_cast Nat.pos_of_ne_zero h0))]
        push_cast
        rfl
      rw [this, ← EReal.coe_inv, ← EReal.coe_mul]
  by_cases ha : a <;> by_cases hb : b <;> by_cases hc : c <;> simp only [ha, hb, hc, if_true, if_false]
  · exact key 3 (by norm_num)
  · exact key 2 (by norm_num)
  · exact key 2 (by norm_num)
  · exact key 1 (by norm_num)
  · exact key 2 (by norm_num)
  · exact key 1 (by norm_num)
  · exact key 1 (by norm_num)
  · exact key 0 (by norm_num)

end Cert.Pat
-- ==== Proof.Ref.lean ====
/- What the reference computes on the extended reals: at every query, head and column, the three softmaxes of its patterns
   mixed by their denominators. -/
module

public import proofs.«01_k».proof.Proof.Gen.ReferenceIdeal.Read
public import proofs.«01_k».proof.Proof.Gen.ReferenceIdeal.Run
public import proofs.«01_k».proof.Proof.Pat
public import Idealize.ShloMosaic.Lib.Pointwise

@[expose] public section

set_option maxRecDepth 16384

noncomputable section

namespace Cert.ReferenceIdeal.Att

open Cert.ReferenceIdeal Cert.ReferenceIdeal.Value Cert.ReferenceIdeal.Read Idealize.ShloMosaic Idealize.ShloMosaic.TcCoe Idealize.SL.Sem
open Cert.Pat

/-- Column `d` of head `h`. -/
def col (h : Fin 12) (d : Fin 64) : Fin 768 := ⟨h.val * 64 + d.val, by omega⟩

/-- The score of key `j` for query `p`. -/
def score (q k : Vec Ideal S2x8192x768 .f32) (b : Fin 2) (h : Fin 12) (p j : Fin 8192) : EReal :=
  (∑ d : Fin 64, q (ix3 b p (col h d)) * k (ix3 b j (col h d))) * Ideal.ofBits .f32 0x3E000000#32

variable (q k v : Vec Ideal S2x8192x768 .f32)

theorem v0_at (b : Fin 2) (p : Fin 8192) (h : Fin 12) (d : Fin 64) :
    val_main_v0 (F := Ideal) q (ix4 b p h d) = q (ix3 b p (col h d)) := by
  rw [val_main_v0_apply]
  refine congrArg q (funext fun a => Fin.ext ?_)
  match a with
  | ⟨0, _⟩ => show (((b.val * 8192 + p.val) * 12 + h.val) * 64 + d.val) / 6291456 = b.val; omega
  | ⟨1, _⟩ => show (((b.val * 8192 + p.val) * 12 + h.val) * 64 + d.val) / 768 % 8192 = p.val; omega
  | ⟨2, _⟩ => show (((b.val * 8192 + p.val) * 12 + h.val) * 64 + d.val) % 768 = h.val * 64 + d.val; omega

theorem v3_at (b : Fin 2) (h : Fin 12) (p j : Fin 8192) :
    val_main_v5 (F := Ideal) q k (ix4 b h p j) = score q k b h p j := by
  unfold score
  simp only [← v0_at]
  show _ = (∑ d : Fin 64, val_main_v0 (F := Ideal) q (ix4 b p h d) * val_main_v1 (F := Ideal) k (ix4 b j h d)) * _
  unfold val_main_v5 val_main_v3
  generalize val_main_v0 (F := Ideal) q = q'
  generalize val_main_v1 (F := Ideal) k = k'
  pointwise [val_main_v4, val_main_cst]

theorem v12_at (p j : Fin 8192) : val_main_v12 (F := Ideal) (ix2 p j) = IntOp.subi (BitVec.ofNat 32 p.val) (BitVec.ofNat 32 j.val) := by
  pointwise [val_main_v12, val_main_v10, val_main_v11, val_main_v9, val_main_v8, val_main_v7, val_main_v6]

theorem v22_at (p j : Fin 8192) : val_main_v22 (F := Ideal) (ix2 p j) = if Sees 128 1 p.val j.val then 1#1 else 0#1 := by
  rw [← word_eq 128 1 _ _ (by omega) (by omega) (by norm_num) (by norm_num) (by norm_num), ← v12_at]
  unfold val_main_v22 val_main_v17 val_main_v14 val_main_v16 val_main_v21 val_main_v19 word
  generalize val_main_v12 (F := Ideal) = z
  pointwise [val_main_v13, val_main_c, val_main_v15, val_main_c_0, val_main_v18, val_main_c_1, val_main_v20, val_main_c_2]

theorem v44_at (p j : Fin 8192) : val_main_v44 (F := Ideal) (ix2 p j) = if Sees 512 4 p.val j.val then 1#1 else 0#1 := by
  rw [← word_eq 512 4 _ _ (by omega) (by omega) (by norm_num) (by norm_num) (by norm_num), ← v12_at]
  unfold val_main_v44 val_main_v39 val_main_v36 val_main_v38 val_main_v43 val_main_v41 word
  generalize val_main_v12 (F := Ideal) = z
  pointwise [val_main_v35, val_main_c_6, val_main_v37, val_main_c_7, val_main_v40, val_main_c_8, val_main_v42, val_main_c_9]

theorem v66_at (p j : Fin 8192) : val_main_v66 (F := Ideal) (ix2 p j) = if Sees 2048 16 p.val j.val then 1#1 else 0#1 := by
  rw [← word_eq 2048 16 _ _ (by omega) (by omega) (by norm_num) (by norm_num) (by norm_num), ← v12_at]
  unfold val_main_v66 val_main_v61 val_main_v58 val_main_v60 val_main_v65 val_main_v63 word
  generalize val_main_v12 (F := Ideal) = z
  pointwise [val_main_v57, val_main_c_13, val_main_v59, val_main_c_14, val_main_v62, val_main_c_15, val_main_v64, val_main_c_16]

/-- A choice by a mask bit, against minus infinity. -/
theorem select_bot (P : Prop) [Decidable P] (s : EReal) :
    Scalar.select (if P then 1#1 else 0#1) s (Ideal.ofBits FTy.f32 4286578688#32) = if P then s else ⊥ := by
  have e : Ideal.ofBits FTy.f32 4286578688#32 = ⊥ := by simp [Ideal.ofBits, Ideal.ieee]
  rw [e]; split <;> simp [Scalar.select]

/-- A running maximum from minus infinity. -/
theorem fold_bot {n : Nat} (f : Fin n → EReal) :
    Finset.fold max (Ideal.ofBits FTy.f32 4286578688#32) f Finset.univ = Finset.univ.sup f := by
  have e : Ideal.ofBits FTy.f32 4286578688#32 = ⊥ := by simp [Ideal.ofBits, Ideal.ieee]
  rw [e]; rfl

theorem tops (a b c : Ideal .f32) : FloatOps.maximumf (FloatOps.maximumf a b) c = max (max (a : EReal) b) c := rfl

theorem weights (a b c : Ideal .f32) : FloatOps.mulf a (FloatOps.hostUnary .exp (FloatOps.subf b c)) = (a : EReal) * Ideal.exp ((b : EReal) - c) := rfl

/-- The scores under the first pattern's mask. -/
theorem v24_at (b : Fin 2) (h : Fin 12) (p j : Fin 8192) :
    val_main_v24 (F := Ideal) q k (ix4 b h p j) = Mix.msk (Sees 128 1 p.val j.val) (score q k b h p j) := by
  rw [← v3_at]
  have hm := v22_at p j
  unfold val_main_v24 Mix.msk
  unfold val_main_call0_v1 val_main_v23
  generalize val_main_v5 (F := Ideal) q k = s
  revert hm
  generalize val_main_v22 (F := Ideal) = z
  intro hm
  pointwise [val_main_call0_v2, val_main_call0_v0, val_main_cst_3]
  rw [hm]
  exact select_bot _ _

/-- The largest of them. -/
theorem v25_at (b : Fin 2) (h : Fin 12) (p : Fin 8192) :
    val_main_v25 (F := Ideal) q k (ix3 b h p) = Mix.top1 (fun j : Fin 8192 => Sees 128 1 p.val j.val) (score q k b h p) := by
  unfold Mix.top1
  simp only [← v24_at]
  unfold val_main_v25
  generalize val_main_v24 (F := Ideal) q k = s
  pointwise [val_main_cst_4]
  exact fold_bot _

/-- The weights. -/
theorem v29_at (b : Fin 2) (h : Fin 12) (p j : Fin 8192) :
    val_main_v29 (F := Ideal) q k (ix4 b h p j) = Mix.we (Mix.top1 (fun j : Fin 8192 => Sees 128 1 p.val j.val) (score q k b h p))
      (Mix.msk (Sees 128 1 p.val j.val) (score q k b h p j)) := by
  rw [← v25_at, ← v24_at]
  unfold val_main_v29 val_main_v28 Mix.we val_main_v27 val_main_v26
  generalize val_main_v24 (F := Ideal) q k = s
  generalize val_main_v25 (F := Ideal) q k = s'
  pointwise

/-- The denominator. -/
theorem v30_at (b : Fin 2) (h : Fin 12) (p : Fin 8192) :
    val_main_v30 (F := Ideal) q k (ix3 b h p) = Mix.den1 (fun j : Fin 8192 => Sees 128 1 p.val j.val) (score q k b h p) := by
  unfold Mix.den1
  simp only [← v29_at]
  unfold val_main_v30
  generalize val_main_v29 (F := Ideal) q k = s
  pointwise [val_main_cst_5]

/-- The numerator. -/
theorem v31_at (b : Fin 2) (h : Fin 12) (p : Fin 8192) (d : Fin 64) :
    val_main_v31 (F := Ideal) q k v (ix4 b h p d)
      = Mix.num1 (fun j : Fin 8192 => Sees 128 1 p.val j.val) (score q k b h p) (fun j => v (ix3 b j (col h d))) := by
  unfold Mix.num1
  simp only [← v29_at, ← v0_at v]
  show _ = ∑ j, val_main_v29 (F := Ideal) q k (ix4 b h p j) * val_main_v2 (F := Ideal) v (ix4 b j h d)
  unfold val_main_v31
  generalize val_main_v29 (F := Ideal) q k = s
  generalize val_main_v2 (F := Ideal) v = v'
  pointwise

/-- The softmax's answer. -/
theorem v34_at (b : Fin 2) (h : Fin 12) (p : Fin 8192) (d : Fin 64) :
    val_main_v34 (F := Ideal) q k v (ix4 b h p d)
      = Ideal.div (Mix.num1 (fun j : Fin 8192 => Sees 128 1 p.val j.val) (score q k b h p) (fun j => v (ix3 b j (col h d))))
        (Mix.den1 (fun j : Fin 8192 => Sees 128 1 p.val j.val) (score q k b h p)) := by
  rw [← v31_at, ← v30_at]
  unfold val_main_v34 val_main_v33 val_main_v32
  generalize val_main_v31 (F := Ideal) q k v = s
  generalize val_main_v30 (F := Ideal) q k = s'
  pointwise

/-- The scores under the second pattern's mask. -/
theorem v46_at (b : Fin 2) (h : Fin 12) (p j : Fin 8192) :
    val_main_v46 (F := Ideal) q k (ix4 b h p j) = Mix.msk (Sees 512 4 p.val j.val) (score q k b h p j) := by
  rw [← v3_at]
  have hm := v44_at p j
  unfold val_main_v46 Mix.msk
  unfold val_main_call1_v1 val_main_v45
  generalize val_main_v5 (F := Ideal) q k = s
  revert hm
  generalize val_main_v44 (F := Ideal) = z
  intro hm
  pointwise [val_main_call1_v2, val_main_call1_v0, val_main_cst_10]
  rw [hm]
  exact select_bot _ _

/-- The largest of them. -/
theorem v47_at (b : Fin 2) (h : Fin 12) (p : Fin 8192) :
    val_main_v47 (F := Ideal) q k (ix3 b h p) = Mix.top1 (fun j : Fin 8192 => Sees 512 4 p.val j.val) (score q k b h p) := by
  unfold Mix.top1
  simp only [← v46_at]
  unfold val_main_v47
  generalize val_main_v46 (F := Ideal) q k = s
  pointwise [val_main_cst_11]
  exact fold_bot _

/-- The weights. -/
theorem v51_at (b : Fin 2) (h : Fin 12) (p j : Fin 8192) :
    val_main_v51 (F := Ideal) q k (ix4 b h p j) = Mix.we (Mix.top1 (fun j : Fin 8192 => Sees 512 4 p.val j.val) (score q k b h p))
      (Mix.msk (Sees 512 4 p.val j.val) (score q k b h p j)) := by
  rw [← v47_at, ← v46_at]
  unfold val_main_v51 val_main_v50 Mix.we val_main_v49 val_main_v48
  generalize val_main_v46 (F := Ideal) q k = s
  generalize val_main_v47 (F := Ideal) q k = s'
  pointwise

/-- The denominator. -/
theorem v52_at (b : Fin 2) (h : Fin 12) (p : Fin 8192) :
    val_main_v52 (F := Ideal) q k (ix3 b h p) = Mix.den1 (fun j : Fin 8192 => Sees 512 4 p.val j.val) (score q k b h p) := by
  unfold Mix.den1
  simp only [← v51_at]
  unfold val_main_v52
  generalize val_main_v51 (F := Ideal) q k = s
  pointwise [val_main_cst_12]

/-- The numerator. -/
theorem v53_at (b : Fin 2) (h : Fin 12) (p : Fin 8192) (d : Fin 64) :
    val_main_v53 (F := Ideal) q k v (ix4 b h p d)
      = Mix.num1 (fun j : Fin 8192 => Sees 512 4 p.val j.val) (score q k b h p) (fun j => v (ix3 b j (col h d))) := by
  unfold Mix.num1
  simp only [← v51_at, ← v0_at v]
  show _ = ∑ j, val_main_v51 (F := Ideal) q k (ix4 b h p j) * val_main_v2 (F := Ideal) v (ix4 b j h d)
  unfold val_main_v53
  generalize val_main_v51 (F := Ideal) q k = s
  generalize val_main_v2 (F := Ideal) v = v'
  pointwise

/-- The softmax's answer. -/
theorem v56_at (b : Fin 2) (h : Fin 12) (p : Fin 8192) (d : Fin 64) :
    val_main_v56 (F := Ideal) q k v (ix4 b h p d)
      = Ideal.div (Mix.num1 (fun j : Fin 8192 => Sees 512 4 p.val j.val) (score q k b h p) (fun j => v (ix3 b j (col h d))))
        (Mix.den1 (fun j : Fin 8192 => Sees 512 4 p.val j.val) (score q k b h p)) := by
  rw [← v53_at, ← v52_at]
  unfold val_main_v56 val_main_v55 val_main_v54
  generalize val_main_v53 (F := Ideal) q k v = s
  generalize val_main_v52 (F := Ideal) q k = s'
  pointwise

/-- The scores under the third pattern's mask. -/
theorem v68_at (b : Fin 2) (h : Fin 12) (p j : Fin 8192) :
    val_main_v68 (F := Ideal) q k (ix4 b h p j) = Mix.msk (Sees 2048 16 p.val j.val) (score q k b h p j) := by
  rw [← v3_at]
  have hm := v66_at p j
  unfold val_main_v68 Mix.msk
  unfold val_main_call2_v1 val_main_v67
  generalize val_main_v5 (F := Ideal) q k = s
  revert hm
  generalize val_main_v66 (F := Ideal) = z
  intro hm
  pointwise [val_main_call2_v2, val_main_call2_v0, val_main_cst_17]
  rw [hm]
  exact select_bot _ _

/-- The largest of them. -/
theorem v69_at (b : Fin 2) (h : Fin 12) (p : Fin 8192) :
    val_main_v69 (F := Ideal) q k (ix3 b h p) = Mix.top1 (fun j : Fin 8192 => Sees 2048 16 p.val j.val) (score q k b h p) := by
  unfold Mix.top1
  simp only [← v68_at]
  unfold val_main_v69
  generalize val_main_v68 (F := Ideal) q k = s
  pointwise [val_main_cst_18]
  exact fold_bot _

/-- The weights. -/
theorem v73_at (b : Fin 2) (h : Fin 12) (p j : Fin 8192) :
    val_main_v73 (F := Ideal) q k (ix4 b h p j) = Mix.we (Mix.top1 (fun j : Fin 8192 => Sees 2048 16 p.val j.val) (score q k b h p))
      (Mix.msk (Sees 2048 16 p.val j.val) (score q k b h p j)) := by
  rw [← v69_at, ← v68_at]
  unfold val_main_v73 val_main_v72 Mix.we val_main_v71 val_main_v70
  generalize val_main_v68 (F := Ideal) q k = s
  generalize val_main_v69 (F := Ideal) q k = s'
  pointwise

/-- The denominator. -/
theorem v74_at (b : Fin 2) (h : Fin 12) (p : Fin 8192) :
    val_main_v74 (F := Ideal) q k (ix3 b h p) = Mix.den1 (fun j : Fin 8192 => Sees 2048 16 p.val j.val) (score q k b h p) := by
  unfold Mix.den1
  simp only [← v73_at]
  unfold val_main_v74
  generalize val_main_v73 (F := Ideal) q k = s
  pointwise [val_main_cst_19]

/-- The numerator. -/
theorem v75_at (b : Fin 2) (h : Fin 12) (p : Fin 8192) (d : Fin 64) :
    val_main_v75 (F := Ideal) q k v (ix4 b h p d)
      = Mix.num1 (fun j : Fin 8192 => Sees 2048 16 p.val j.val) (score q k b h p) (fun j => v (ix3 b j (col h d))) := by
  unfold Mix.num1
  simp only [← v73_at, ← v0_at v]
  show _ = ∑ j, val_main_v73 (F := Ideal) q k (ix4 b h p j) * val_main_v2 (F := Ideal) v (ix4 b j h d)
  unfold val_main_v75
  generalize val_main_v73 (F := Ideal) q k = s
  generalize val_main_v2 (F := Ideal) v = v'
  pointwise

/-- The softmax's answer. -/
theorem v78_at (b : Fin 2) (h : Fin 12) (p : Fin 8192) (d : Fin 64) :
    val_main_v78 (F := Ideal) q k v (ix4 b h p d)
      = Ideal.div (Mix.num1 (fun j : Fin 8192 => Sees 2048 16 p.val j.val) (score q k b h p) (fun j => v (ix3 b j (col h d))))
        (Mix.den1 (fun j : Fin 8192 => Sees 2048 16 p.val j.val) (score q k b h p)) := by
  rw [← v75_at, ← v74_at]
  unfold val_main_v78 val_main_v77 val_main_v76
  generalize val_main_v75 (F := Ideal) q k v = s
  generalize val_main_v74 (F := Ideal) q k = s'
  pointwise

/-- The common maximum of the three patterns. -/
theorem v80_at (b : Fin 2) (h : Fin 12) (p : Fin 8192) :
    val_main_v80 (F := Ideal) q k (ix3 b h p) = Mix.top3 (fun j : Fin 8192 => Sees 128 1 p.val j.val)
      (fun j : Fin 8192 => Sees 512 4 p.val j.val) (fun j : Fin 8192 => Sees 2048 16 p.val j.val) (score q k b h p) := by
  unfold Mix.top3
  rw [val_main_v80_apply, val_main_v79_apply, v25_at, v47_at, v69_at]
  exact tops _ _ _

theorem v83_at (b : Fin 2) (h : Fin 12) (p : Fin 8192) :
    val_main_v83 (F := Ideal) q k (ix3 b h p) = Mix.wgt1 (fun j : Fin 8192 => Sees 128 1 p.val j.val) (score q k b h p)
      (Mix.top3 (fun j : Fin 8192 => Sees 128 1 p.val j.val) (fun j : Fin 8192 => Sees 512 4 p.val j.val)
        (fun j : Fin 8192 => Sees 2048 16 p.val j.val) (score q k b h p)) := by
  unfold Mix.wgt1
  rw [val_main_v83_apply, val_main_v82_apply, val_main_v81_apply, v80_at, v30_at, v25_at]
  exact weights _ _ _

theorem v86_at (b : Fin 2) (h : Fin 12) (p : Fin 8192) :
    val_main_v86 (F := Ideal) q k (ix3 b h p) = Mix.wgt1 (fun j : Fin 8192 => Sees 512 4 p.val j.val) (score q k b h p)
      (Mix.top3 (fun j : Fin 8192 => Sees 128 1 p.val j.val) (fun j : Fin 8192 => Sees 512 4 p.val j.val)
        (fun j : Fin 8192 => Sees 2048 16 p.val j.val) (score q k b h p)) := by
  unfold Mix.wgt1
  rw [val_main_v86_apply, val_main_v85_apply, val_main_v84_apply, v80_at, v52_at, v47_at]
  exact weights _ _ _

theorem v89_at (b : Fin 2) (h : Fin 12) (p : Fin 8192) :
    val_main_v89 (F := Ideal) q k (ix3 b h p) = Mix.wgt1 (fun j : Fin 8192 => Sees 2048 16 p.val j.val) (score q k b h p)
      (Mix.top3 (fun j : Fin 8192 => Sees 128 1 p.val j.val) (fun j : Fin 8192 => Sees 512 4 p.val j.val)
        (fun j : Fin 8192 => Sees 2048 16 p.val j.val) (score q k b h p)) := by
  unfold Mix.wgt1
  rw [val_main_v89_apply, val_main_v88_apply, val_main_v87_apply, v80_at, v74_at, v69_at]
  exact weights _ _ _

/-- The mixture, head by head. -/
theorem v109_at (b : Fin 2) (h : Fin 12) (p : Fin 8192) (d : Fin 64) :
    val_main_v109 (F := Ideal) q k v (ix4 b h p d) = Mix.mix (fun j : Fin 8192 => Sees 128 1 p.val j.val)
      (fun j : Fin 8192 => Sees 512 4 p.val j.val) (fun j : Fin 8192 => Sees 2048 16 p.val j.val) (score q k b h p)
      (fun j => v (ix3 b j (col h d))) := by
  unfold Mix.mix
  rw [← v83_at, ← v86_at, ← v89_at, ← v34_at, ← v56_at, ← v78_at]
  unfold val_main_v109 val_main_v108 val_main_v107 val_main_v106 val_main_v105 val_main_v104 val_main_v103 val_main_v102 val_main_v101
    val_main_v100 val_main_v99 val_main_v98 val_main_v97 val_main_v96 val_main_v95 val_main_v94 val_main_v93 val_main_v92 val_main_v91
    val_main_v90
  generalize val_main_v83 (F := Ideal) q k = s0
  generalize val_main_v86 (F := Ideal) q k = s1
  generalize val_main_v89 (F := Ideal) q k = s2
  generalize val_main_v34 (F := Ideal) q k v = t0
  generalize val_main_v56 (F := Ideal) q k v = t1
  generalize val_main_v78 (F := Ideal) q k v = t2
  pointwise [val_main_cst_20, val_main_cst_21]

/-- The reference's result. -/
theorem result_at (b : Fin 2) (h : Fin 12) (p : Fin 8192) (d : Fin 64) :
    val_main_v112 (F := Ideal) q k v (ix3 b p (col h d)) = Mix.mix (fun j : Fin 8192 => Sees 128 1 p.val j.val)
      (fun j : Fin 8192 => Sees 512 4 p.val j.val) (fun j : Fin 8192 => Sees 2048 16 p.val j.val) (score q k b h p)
      (fun j => v (ix3 b j (col h d))) := by
  rw [← v109_at, val_main_v112_apply]
  show val_main_v111 (F := Ideal) q k v _ = _
  rw [val_main_v111_apply, val_main_v110_apply]
  refine congrArg (val_main_v109 (F := Ideal) q k v) (funext fun a => Fin.ext ?_)
  match a with
  | ⟨0, _⟩ => show ((b.val * 8192 + p.val) * 768 + (h.val * 64 + d.val)) / 6291456 = b.val; omega
  | ⟨1, _⟩ => show ((b.val * 8192 + p.val) * 768 + (h.val * 64 + d.val)) / 64 % 12 = h.val; omega
  | ⟨2, _⟩ => show ((b.val * 8192 + p.val) * 768 + (h.val * 64 + d.val)) / 768 % 8192 = p.val; omega
  | ⟨3, _⟩ => show ((b.val * 8192 + p.val) * 768 + (h.val * 64 + d.val)) % 64 = d.val; omega

end Cert.ReferenceIdeal.Att
-- ==== Proof.Score.lean ====
/- One point of the grid on the extended reals: what it computes from its blocks is, at every query and column, the three
   patterns' softmaxes mixed by their denominators. -/
module

public import proofs.«01_k».proof.Proof.Rows
public import proofs.«01_k».proof.Proof.Ref
public import Idealize.ShloMosaic.PureOps.IdealRules
public import Idealize.ShloMosaic.Lib.Pipeline.ValueKit.Tiles

@[expose] public section

set_option maxRecDepth 16384

noncomputable section

namespace Cert.KernelIdeal.Att

open Cert.KernelIdeal Cert.KernelIdeal.Gen Idealize.ShloMosaic Idealize.ShloMosaic.TcCoe Idealize.SL.Sem
open Cert.Pat Cert.ReferenceIdeal.Att

/-- The number the queries are multiplied by: the head's scale in base-two units. -/
theorem scale_eq : Named.named (F := Ideal) κ "scale" (φ := FTy.f32) 1043900987#32
    = (((Real.log 2)⁻¹ : ℝ) : EReal) * Ideal.ofBits .f32 0x3E000000#32 := by
  have e : Ideal.ofBits .f32 0x3E000000#32 = ((1 / 8 : ℝ) : EReal) := by
    simp [Ideal.ofBits, Ideal.ieee, -EReal.coe_mul]; norm_num
  rw [e, ← EReal.coe_mul, mul_comm]
  exact IdealRules.named_const.ideal_named_scalar _ _ _ _ rfl

/-- A lane lies in the first head's half. -/
theorem first_half (x : Fin 128) : IntOp.cmpi .slt (BitVec.ofNat 32 x.val) 64#32 = if x.val < 64 then 1#1 else 0#1 := by
  revert x; decide +kernel

theorem pay37_at (x0 : Vec Ideal S1x512x128 .f32) (r : Fin 512) (x : Fin 128) : k0_pay37 x0 (ix2 r x)
    = if x.val < 64 then x0 (ix3 0 r x) * Named.named (F := Ideal) κ "scale" (φ := FTy.f32) 1043900987#32 else 0 := by
  pointwise [k0_pay37, k0_pay34, k0_pay35, k0_pay36]
  rw [first_half]; split <;> simp [Scalar.select]

theorem pay38_at (x0 : Vec Ideal S1x512x128 .f32) (r : Fin 512) (x : Fin 128) : k0_pay38 x0 (ix2 r x)
    = if x.val < 64 then 0 else x0 (ix3 0 r x) * Named.named (F := Ideal) κ "scale" (φ := FTy.f32) 1043900987#32 := by
  pointwise [k0_pay38, k0_pay34, k0_pay35, k0_pay36]
  rw [first_half]; split <;> simp [Scalar.select]

/-- The two heads' queries, one above the other: each row keeps its own head's columns. -/
theorem q2_at (x0 : Vec Ideal S1x512x128 .f32) (r : Fin 1024) (x : Fin 128) : q2 x0 (ix2 r x)
    = if x.val / 64 = r.val / 512 then
        x0 (ix3 0 ⟨r.val % 512, Nat.mod_lt _ (by norm_num)⟩ x) * Named.named (F := Ideal) κ "scale" (φ := FTy.f32) 1043900987#32
      else 0 := by
  unfold q2
  by_cases h : r.val < 512
  · rw [View.canon_cons_of_not_mem _ _ (by
      show (ix2 r x : S1024x128.Idx) ∉ (Rect.unit (s := S1024x128) ![512, 0] S512x128.size inb_S1024x128_S512x128_512_0).set
      rw [Rect.mem_set_unit]
      intro h'
      have h0 : 512 ≤ r.val := (h' 0).1
      omega)]
    have e : (ix2 r x : S1024x128.Idx) = (Rect.unit (s := S1024x128) ![0, 0] S512x128.size inb_S1024x128_S512x128_0_0).emb (ix2 (⟨r.val, h⟩ : Fin 512) x) := by
      funext a; apply Fin.ext
      match a with
      | ⟨0, _⟩ => show r.val = 0 + 1 * r.val; omega
      | ⟨1, _⟩ => show x.val = 0 + 1 * x.val; omega
    rw [e, View.canon_cons_emb, pay37_at]
    have hr : (⟨r.val % 512, Nat.mod_lt _ (by norm_num)⟩ : Fin 512) = ⟨r.val, h⟩ := Fin.ext (Nat.mod_eq_of_lt h)
    rw [hr]
    exact if_congr (by constructor <;> intro _ <;> omega) rfl rfl
  · have h1 := r.isLt
    have e : (ix2 r x : S1024x128.Idx) = (Rect.unit (s := S1024x128) ![512, 0] S512x128.size inb_S1024x128_S512x128_512_0).emb
        (ix2 (⟨r.val - 512, by omega⟩ : Fin 512) x) := by
      funext a; apply Fin.ext
      match a with
      | ⟨0, _⟩ => show r.val = 512 + 1 * (r.val - 512); omega
      | ⟨1, _⟩ => show x.val = 0 + 1 * x.val; omega
    rw [e, View.canon_cons_emb, pay38_at]
    have hr : (⟨r.val % 512, Nat.mod_lt _ (by norm_num)⟩ : Fin 512) = ⟨r.val - 512, by omega⟩ := Fin.ext (by show r.val % 512 = r.val - 512; omega)
    rw [hr]
    by_cases hx : x.val < 64
    · rw [if_pos hx, if_neg (by omega)]
    · rw [if_neg hx, if_pos (by omega)]

theorem keys_at (i : grid0.Coords) (k : Fin (k0_t1_loop i).trips) (x : Vec Ideal S1x8192x128 .bf16) (j : Fin 512) (d : Fin 128)
    (J : Fin 8192) (hJ : J.val = ((i 2).val - 4 + k.val) * 512 + j.val) : keys i k x (ix3 0 j d) = x (ix3 0 J d) := by
  unfold keys
  refine View.ld_unit_apply_of _ _ _ _ _ _ fun a => ?_
  have h := off1_eq i k
  match a with
  | ⟨0, _⟩ => show 0 = k0_off1 i k 0 + 0; rw [h]; rfl
  | ⟨1, _⟩ => show J.val = k0_off1 i k 1 + j.val; rw [h, hJ]; rfl
  | ⟨2, _⟩ => show d.val = k0_off1 i k 2 + d.val; rw [h]; exact (Nat.zero_add _).symm

theorem bias_at (i : grid0.Coords) (k : Fin (k0_t1_loop i).trips) (x : Vec Ideal S5x512x512 .f32) (s j : Fin 512)
    (e : Fin 5) (he : e.val = min (i 2).val 4 - k.val) : biasBlk i k x (ix3 0 s j) = x (ix3 e s j) := by
  unfold biasBlk
  refine View.ld_unit_apply_of _ _ _ _ _ _ fun a => ?_
  have h := off2_eq i k
  match a with
  | ⟨0, _⟩ => show e.val = k0_off2 i k 0 + 0; rw [h, he]; rfl
  | ⟨1, _⟩ => show s.val = k0_off2 i k 1 + s.val; rw [h]; exact (Nat.zero_add _).symm
  | ⟨2, _⟩ => show j.val = k0_off2 i k 2 + j.val; rw [h]; exact (Nat.zero_add _).symm

/-- Of 128 lanes only one head's 64 count. -/
theorem sum_half (f : Fin 128 → EReal) (e : Fin 2) :
    ∑ x : Fin 128, (if x.val / 64 = e.val then f x else 0) = ∑ d : Fin 64, f ⟨e.val * 64 + d.val, by omega⟩ := by
  refine (Fintype.sum_of_injective (fun d : Fin 64 => (⟨e.val * 64 + d.val, by omega⟩ : Fin 128)) ?_ _ _ ?_ ?_).symm
  · intro a b h
    have := Fin.mk.inj h
    exact Fin.ext (by omega)
  · intro x hx
    refine if_neg fun h => hx ⟨⟨x.val - e.val * 64, by omega⟩, Fin.ext ?_⟩
    show e.val * 64 + (x.val - e.val * 64) = x.val
    omega
  · intro d
    exact (if_pos (by show (e.val * 64 + d.val) / 64 = e.val; omega)).symm

section Point

variable (q k v : Vec Ideal Cert.ReferenceIdeal.S2x8192x768 .f32) (b : Fin 2) (hp : Fin 6) (n : Fin 16)
variable (i : grid0.Coords) (x0 : Vec Ideal S1x512x128 .f32) (x1 x2 : Vec Ideal S1x8192x128 .bf16) (x3 : Vec Ideal S5x512x512 .f32)

/-- Column `x` of the pair of heads. -/
def pcol (x : Fin 128) : Fin 768 := ⟨hp.val * 128 + x.val, by omega⟩

/-- Query `s` of the block. -/
def qrow (s : Fin 512) : Fin 8192 := ⟨n.val * 512 + s.val, by omega⟩

/-- How many patterns let query `p` see key `j`. -/
def times (p j : ℕ) : ℕ := (if Sees 128 1 p j then 1 else 0) + (if Sees 512 4 p j then 1 else 0) + (if Sees 2048 16 p j then 1 else 0)

theorem times_shift (a p j : ℕ) : times (a + p) (a + j) = times p j := by
  unfold times
  simp only [sees_shift]

/-- The point's blocks are its parts of the arrays. -/
structure Blocks : Prop where
  hi : (i 2).val = n.val
  h0 : ∀ s x, x0 (ix3 0 s x) = q (ix3 b (qrow n s) (pcol hp x))
  h1 : ∀ j x, x1 (ix3 0 j x) = k (ix3 b j (pcol hp x))
  h2 : ∀ j x, x2 (ix3 0 j x) = v (ix3 b j (pcol hp x))
  h3 : ∀ e s x, x3 (ix3 e s x) = Mix.bias (times (e.val * 512 + s.val) x.val)

variable {q k v b hp n i x0 x1 x2 x3} (H : Blocks q k v b hp n i x0 x1 x2 x3)

/-- Key `j` of the block visited in trip `t`. -/
def kcol (n : Fin 16) (t : ℕ) (ht : t < min n.val 4 + 1) (j : Fin 512) : Fin 8192 := ⟨(n.val - 4 + t) * 512 + j.val, by omega⟩

include H

theorem trips_n : (k0_t1_loop i).trips = min n.val 4 + 1 := by rw [trips_eq, H.hi]

/-- The score of a visited key is the reference's, in base two, with the bias of the number of patterns. -/
theorem ys_at (e : Fin 2) (s : Fin 512) (t : ℕ) (ht : t < min n.val 4 + 1) (j : Fin 512) :
    ys i x1 (q2 x0) x3 ⟨e.val * 512 + s.val, by omega⟩ t j
      = Mix.score2 (score q k b ⟨hp.val * 2 + e.val, by omega⟩ (qrow n s) (kcol n t ht j)) (times (qrow n s).val (kcol n t ht j).val) := by
  unfold ys
  rw [dif_pos (by rw [trips_n H]; exact ht)]
  unfold sc Mix.score2
  have hm : (⟨(e.val * 512 + s.val) % 512, Nat.mod_lt _ (by norm_num)⟩ : Fin 512) = s := Fin.ext (by show (e.val * 512 + s.val) % 512 = s.val; omega)
  have hd : (e.val * 512 + s.val) / 512 = e.val := by omega
  congr 1
  · have : ∀ x : Fin 128, q2 x0 (ix2 (⟨e.val * 512 + s.val, by omega⟩ : Fin 1024) x) * keys i ⟨t, by rw [trips_n H]; exact ht⟩ x1 (ix3 0 j x)
        = if x.val / 64 = e.val then (((Real.log 2)⁻¹ : ℝ) : EReal) * (Ideal.ofBits .f32 0x3E000000#32
            * (q (ix3 b (qrow n s) (pcol hp x)) * k (ix3 b (kcol n t ht j) (pcol hp x)))) else 0 := by
      intro x
      rw [q2_at, keys_at i ⟨t, by rw [trips_n H]; exact ht⟩ x1 j x (kcol n t ht j) (by show _ = ((i 2).val - 4 + t) * 512 + j.val; rw [H.hi]; rfl), H.h1, hm, hd, H.h0, scale_eq]
      split
      · show (_ * (_ * _)) * _ = (_ : EReal)
        rw [mul_comm (q _) _, mul_assoc, mul_assoc]
      · exact zero_mul _
    rw [Finset.sum_congr rfl fun x _ => this x, sum_half (fun x => (((Real.log 2)⁻¹ : ℝ) : EReal) * (Ideal.ofBits .f32 0x3E000000#32
            * (q (ix3 b (qrow n s) (pcol hp x)) * k (ix3 b (kcol n t ht j) (pcol hp x))))) e]
    have e8 : Ideal.ofBits .f32 0x3E000000#32 = ((1 / 8 : ℝ) : EReal) := by
      simp [Ideal.ofBits, Ideal.ieee, -EReal.coe_mul]; norm_num
    rw [← Mix.mul_sum_of_nonneg _ _ (by exact_mod_cast (inv_pos.2 Mix.log2_pos).le) (EReal.coe_ne_top _),
      ← Mix.mul_sum_of_nonneg _ _ (by rw [e8]; exact_mod_cast (by norm_num : (0 : ℝ) ≤ 1 / 8)) (by rw [e8]; exact EReal.coe_ne_top _)]
    unfold score
    rw [mul_comm (∑ d : Fin 64, _) (Ideal.ofBits .f32 0x3E000000#32)]
    congr 2
    refine Finset.sum_congr rfl fun d _ => ?_
    have : pcol hp ⟨e.val * 64 + d.val, by omega⟩ = col ⟨hp.val * 2 + e.val, by omega⟩ d :=
      Fin.ext (by show hp.val * 128 + (e.val * 64 + d.val) = (hp.val * 2 + e.val) * 64 + d.val; omega)
    rw [this]
  · rw [hm, bias_at i ⟨t, by rw [trips_n H]; exact ht⟩ x3 s j ⟨min n.val 4 - t, by omega⟩ (by rw [H.hi]), H.h3]
    congr 1
    rw [← times_shift ((n.val - 4 + t) * 512)]
    congr 1
    show (n.val - 4 + t) * 512 + ((min n.val 4 - t) * 512 + s.val) = n.val * 512 + s.val
    omega

/-- A key no trip visits is seen by no pattern. -/
theorem times_unvisited (s : Fin 512) (J : Fin 8192) (h : ∀ t ht j, kcol n t ht j ≠ J) : times (qrow n s).val J.val = 0 := by
  have hn : ∀ w d, w ≤ 2048 → ¬ Sees w d (qrow n s).val J.val := by
    rintro w d hw ⟨h1, h2, -⟩
    change J.val ≤ n.val * 512 + s.val at h1
    change n.val * 512 + s.val - J.val ≤ w at h2
    have hs := s.isLt
    refine h (J.val / 512 - (n.val - 4)) (by omega) ⟨J.val % 512, by omega⟩ (Fin.ext ?_)
    show (n.val - 4 + (J.val / 512 - (n.val - 4))) * 512 + J.val % 512 = J.val
    omega
  unfold times
  rw [if_neg (hn _ _ (by norm_num)), if_neg (hn _ _ (by norm_num)), if_neg (hn _ _ (by norm_num))]

omit H in
/-- Summing over the trips and the keys of their blocks is summing over all keys, where the others add nothing. -/
theorem sum_keys (n : Fin 16) (g : ℕ → Fin 512 → EReal) (f : Fin 8192 → EReal) (hg : ∀ t ht j, g t j = f (kcol n t ht j))
    (hf : ∀ J, (∀ t ht j, kcol n t ht j ≠ J) → f J = 0) :
    ∑ t ∈ Finset.range (min n.val 4 + 1), ∑ j, g t j = ∑ J, f J := by
  rw [Finset.sum_range, ← Fintype.sum_prod_type' (fun (t : Fin (min n.val 4 + 1)) (j : Fin 512) => g t.val j)]
  refine Fintype.sum_of_injective (fun x : Fin (min n.val 4 + 1) × Fin 512 => kcol n x.1.val x.1.isLt x.2) ?_ _ _ ?_ ?_
  · rintro ⟨t, j⟩ ⟨t', j'⟩ h
    have h : (n.val - 4 + t.val) * 512 + j.val = (n.val - 4 + t'.val) * 512 + j'.val := Fin.mk.inj h
    have h1 : t.val = t'.val := by have := j.isLt; have := j'.isLt; omega
    exact Prod.ext (Fin.ext h1) (Fin.ext (by show j.val = j'.val; omega))
  · intro J hJ
    exact hf J fun t ht j e => hJ ⟨(⟨t, ht⟩, j), e⟩
  · rintro ⟨t, j⟩
    exact hg t.val t.isLt j

/-- What the point writes for query `s`, column `d` of head `e` of its two. -/
theorem point_at (e : Fin 2) (s : Fin 512) (d : Fin 64) :
    Ideal.div ((chain i x1 x2 (q2 x0) x3 (k0_t1_loop i).trips).2.2 (ix2 (⟨e.val * 512 + s.val, by omega⟩ : Fin 1024) (⟨e.val * 64 + d.val, by omega⟩ : Fin 128)))
        (∑ x, (chain i x1 x2 (q2 x0) x3 (k0_t1_loop i).trips).2.1 (ix2 (⟨e.val * 512 + s.val, by omega⟩ : Fin 1024) x))
      = Mix.mix (fun j : Fin 8192 => Sees 128 1 (qrow n s).val j.val) (fun j : Fin 8192 => Sees 512 4 (qrow n s).val j.val)
          (fun j : Fin 8192 => Sees 2048 16 (qrow n s).val j.val)
          (score q k b ⟨hp.val * 2 + e.val, by omega⟩ (qrow n s)) (fun j => v (ix3 b j (col ⟨hp.val * 2 + e.val, by omega⟩ d))) := by
  have hT := trips_n H
  rw [chain_num i x1 x2 (q2 x0) x3 _ _ _ le_rfl, chain_den_sum i x1 x2 (q2 x0) x3 _ _ le_rfl]
  generalize hM : mx i x1 (q2 x0) x3 ⟨e.val * 512 + s.val, by omega⟩ (k0_t1_loop i).trips = M
  rw [hT]
  set S : Fin 8192 → EReal := fun J => Mix.score2 (score q k b ⟨hp.val * 2 + e.val, by omega⟩ (qrow n s) J) (times (qrow n s).val J.val) with hS
  have hS0 : ∀ J, (∀ t ht j, kcol n t ht j ≠ J) → S J = ⊥ := fun J h => by
    rw [hS]; show Mix.score2 _ (times _ _) = _; rw [times_unvisited H s J h, Mix.score2_zero]
  have hvs : ∀ t ht j, vs i x2 (⟨e.val * 64 + d.val, by omega⟩ : Fin 128) t j
      = v (ix3 b (kcol n t ht j) (col ⟨hp.val * 2 + e.val, by omega⟩ d)) := by
    intro t ht j
    unfold vs
    rw [dif_pos (by rw [hT]; exact ht), keys_at i ⟨t, by rw [hT]; exact ht⟩ x2 j _ (kcol n t ht j) (by show _ = ((i 2).val - 4 + t) * 512 + j.val; rw [H.hi]; rfl), H.h2]
    have : pcol hp ⟨e.val * 64 + d.val, by omega⟩ = col ⟨hp.val * 2 + e.val, by omega⟩ d :=
      Fin.ext (by show hp.val * 128 + (e.val * 64 + d.val) = (hp.val * 2 + e.val) * 64 + d.val; omega)
    rw [this]
  rw [sum_keys n _ (fun J => Mix.w2 M (S J) * v (ix3 b J (col ⟨hp.val * 2 + e.val, by omega⟩ d)))
      (fun t ht j => by rw [ys_at H e s t ht j, hvs t ht j]) (fun J h => by rw [hS0 J h, Mix.w2_bot, zero_mul]),
    sum_keys n _ (fun J => Mix.w2 M (S J)) (fun t ht j => by rw [ys_at H e s t ht j]) (fun J h => by rw [hS0 J h, Mix.w2_bot])]
  refine Mix.mixture (fun j : Fin 8192 => Sees 128 1 (qrow n s).val j.val) (fun j : Fin 8192 => Sees 512 4 (qrow n s).val j.val)
          (fun j : Fin 8192 => Sees 2048 16 (qrow n s).val j.val) _ _ M ?_ ?_ ?_
  · rw [← hM]; exact mx_ne i x1 (q2 x0) x3 _ _
  · intro J
    show S J ≤ M
    by_cases h : ∀ t ht j, kcol n t ht j ≠ J
    · rw [hS0 J h]; exact bot_le
    · simp only [not_forall, not_not] at h
      obtain ⟨t, ht, j, rfl⟩ := h
      rw [hS]
      show Mix.score2 _ (times _ _) ≤ _
      rw [← ys_at H e s t ht j, ← hM]
      exact (ys_le ..).trans (mx_le _ _ _ _ _ _ _ (by rw [hT]; exact ht))
  · intro h
    rw [← hM] at h
    obtain ⟨t, -, j, ht, hy⟩ := mx_attained _ _ _ _ _ _ h
    rw [hT] at ht
    exact ⟨kcol n t ht j, by rw [ys_at H e s t ht j] at hy; exact hy⟩

end Point

end Cert.KernelIdeal.Att
-- ==== Proof.Out.lean ====
/- The kernel's result on the extended reals: its blocks put together are the mixture of the three patterns, at every
   position and column. -/
module

public import proofs.«01_k».proof.Proof.Body
public import proofs.«01_k».proof.Proof.Score
public import proofs.«01_k».proof.Proof.Gen.KernelIdeal.Value
public import Idealize.ShloMosaic.Lib.Claim
public import Idealize.ShloMosaic.Lib.Pipeline.ValueKit.Geometry

@[expose] public section

set_option maxRecDepth 16384

noncomputable section

namespace Cert.KernelIdeal.Att

open Cert.KernelIdeal Cert.KernelIdeal.Gen Idealize.ShloMosaic Idealize.ShloMosaic.TcCoe Idealize.SL.Sem Idealize.ShloMosaic.StableHlo
open Cert.Pat Cert.ReferenceIdeal.Att

/-- The mixture at every position and column of the arrays. -/
def mixed (q k v : Vec Ideal Cert.ReferenceIdeal.S2x8192x768 .f32) (y : S2x8192x768.Idx) : EReal :=
  Mix.mix (fun j : Fin 8192 => Sees 128 1 (y 1).val j.val) (fun j : Fin 8192 => Sees 512 4 (y 1).val j.val)
    (fun j : Fin 8192 => Sees 2048 16 (y 1).val j.val)
    (score q k (y 0) ⟨(y 2).val / 64, by have : (y 2).val < 768 := (y 2).isLt; omega⟩ (y 1)) (fun j => v (ix3 (y 0) j (y 2)))

variable (m : (ℓ : Loc nD τ sig) → Buf (Elt Ideal) ℓ) (c : Dev nD)

abbrev qa : Vec Ideal Cert.ReferenceIdeal.S2x8192x768 .f32 := m ((c.tc : Thread nD τ).loc main_arg0)
abbrev ka : Vec Ideal Cert.ReferenceIdeal.S2x8192x768 .f32 := m ((c.tc : Thread nD τ).loc main_arg1)
abbrev va : Vec Ideal Cert.ReferenceIdeal.S2x8192x768 .f32 := m ((c.tc : Thread nD τ).loc main_arg2)

theorem k_at (b : Fin 2) (p : Fin 8192) (x : Fin 768) : (V m c main_v0 : Vec Ideal S2x8192x768 .bf16) (ix3 b p x) = ka m c (ix3 b p x) := by
  unfold ka
  show _ = (m (c, Proc.tc.devRef main_arg1) : Vec Ideal S2x8192x768 .f32) (ix3 b p x)
  entry_read
  pointwise

theorem v_at (b : Fin 2) (p : Fin 8192) (x : Fin 768) : (V m c main_v1 : Vec Ideal S2x8192x768 .bf16) (ix3 b p x) = va m c (ix3 b p x) := by
  unfold va
  show _ = (m (c, Proc.tc.devRef main_arg2) : Vec Ideal S2x8192x768 .f32) (ix3 b p x)
  entry_read
  pointwise

theorem dist (e : Fin 5) (s : Fin 512) : IntOp.addi (IntOp.muli (BitVec.ofNat 32 e.val) 512#32) (BitVec.ofNat 32 s.val)
    = BitVec.ofNat 32 (e.val * 512 + s.val) := by
  apply BitVec.eq_of_toNat_eq
  show (BitVec.ofNat 32 e.val * 512#32 + BitVec.ofNat 32 s.val).toNat = _
  rw [BitVec.toNat_add, BitVec.toNat_mul]
  simp only [BitVec.toNat_ofNat]
  omega

/-- An entry of the table of biases: the logarithm of the number of patterns that see a key at that distance. -/
theorem table_at (e : Fin 5) (s x : Fin 512) :
    (V m c main_v50 : Vec Ideal S5x512x512 .f32) (ix3 e s x) = Mix.bias (times (e.val * 512 + s.val) x.val) := by
  unfold times
  rw [← log_count, ← word_eq 128 1 _ _ (by omega) (by omega) (by norm_num) (by norm_num) (by norm_num),
    ← word_eq 512 4 _ _ (by omega) (by omega) (by norm_num) (by norm_num) (by norm_num),
    ← word_eq 2048 16 _ _ (by omega) (by omega) (by norm_num) (by norm_num) (by norm_num), ← dist]
  entry_read
  pointwise
  rfl

theorem tr0 (i : grid0.Coords) : cc0_transform_0 i = ![(i 0).val, (i 2).val, (i 1).val] := by
  have h0 : (i 0).val < 2 := (i 0).isLt
  have h1 : (i 1).val < 6 := (i 1).isLt
  have h2 : (i 2).val < 16 := (i 2).isLt
  funext a
  match a with
  | ⟨0, _⟩ => show (BitVec.ofNat 32 (i 0).val).toNat = (i 0).val; rw [BitVec.toNat_ofNat]; omega
  | ⟨1, _⟩ => show (BitVec.ofNat 32 (i 2).val).toNat = (i 2).val; rw [BitVec.toNat_ofNat]; omega
  | ⟨2, _⟩ => show (BitVec.ofNat 32 (i 1).val).toNat = (i 1).val; rw [BitVec.toNat_ofNat]; omega

theorem tr1 (i : grid0.Coords) : cc0_transform_1 i = ![(i 0).val, 0, (i 1).val] := by
  have h0 : (i 0).val < 2 := (i 0).isLt
  have h1 : (i 1).val < 6 := (i 1).isLt
  funext a
  match a with
  | ⟨0, _⟩ => show (BitVec.ofNat 32 (i 0).val).toNat = (i 0).val; rw [BitVec.toNat_ofNat]; omega
  | ⟨1, _⟩ => rfl
  | ⟨2, _⟩ => show (BitVec.ofNat 32 (i 1).val).toNat = (i 1).val; rw [BitVec.toNat_ofNat]; omega

/-- The pair of heads a point works on. -/
abbrev pr (t : Fin cfg0.N) : Fin 6 := grid0.coords t 1
abbrev bt (t : Fin cfg0.N) : Fin 2 := grid0.coords t 0
abbrev bq (t : Fin cfg0.N) : Fin 16 := grid0.coords t 2

theorem blk0_at (t : Fin cfg0.N) (s : Fin 512) (x : Fin 128) :
    (iblk m c 0 t : Vec Ideal S1x512x128 .f32) (ix3 0 s x) = qa m c (ix3 (bt t) (qrow (bq t) s) (pcol (pr t) x)) := by
  unfold iblk; rw [View.read_apply]
  show V m c main_arg0 _ = _
  rw [V_main_arg0]
  refine congrArg (m ((c.tc : Thread nD τ).loc main_arg0)) (funext fun a => Fin.ext ?_)
  match a with
  | ⟨0, _⟩ => show cc0_transform_0 (grid0.coords t) 0 * 1 + 1 * 0 = (grid0.coords t 0).val; rw [tr0]; show (grid0.coords t 0).val * 1 + 1 * 0 = _; omega
  | ⟨1, _⟩ => show cc0_transform_0 (grid0.coords t) 1 * 512 + 1 * s.val = (grid0.coords t 2).val * 512 + s.val; rw [tr0]; show (grid0.coords t 2).val * 512 + 1 * s.val = _; omega
  | ⟨2, _⟩ => show cc0_transform_0 (grid0.coords t) 2 * 128 + 1 * x.val = (grid0.coords t 1).val * 128 + x.val; rw [tr0]; show (grid0.coords t 1).val * 128 + 1 * x.val = _; omega

theorem blk1_at (t : Fin cfg0.N) (j : Fin 8192) (x : Fin 128) :
    (iblk m c 1 t : Vec Ideal S1x8192x128 .bf16) (ix3 0 j x) = ka m c (ix3 (bt t) j (pcol (pr t) x)) := by
  rw [← k_at]
  unfold iblk; rw [View.read_apply]
  show V m c main_v0 _ = _
  refine congrArg (V m c main_v0) (funext fun a => Fin.ext ?_)
  match a with
  | ⟨0, _⟩ => show cc0_transform_1 (grid0.coords t) 0 * 1 + 1 * 0 = (grid0.coords t 0).val; rw [tr1]; show (grid0.coords t 0).val * 1 + 1 * 0 = _; omega
  | ⟨1, _⟩ => show cc0_transform_1 (grid0.coords t) 1 * 8192 + 1 * j.val = j.val; rw [tr1]; show 0 * 8192 + 1 * j.val = _; omega
  | ⟨2, _⟩ => show cc0_transform_1 (grid0.coords t) 2 * 128 + 1 * x.val = (grid0.coords t 1).val * 128 + x.val; rw [tr1]; show (grid0.coords t 1).val * 128 + 1 * x.val = _; omega

theorem blk2_at (t : Fin cfg0.N) (j : Fin 8192) (x : Fin 128) :
    (iblk m c 2 t : Vec Ideal S1x8192x128 .bf16) (ix3 0 j x) = va m c (ix3 (bt t) j (pcol (pr t) x)) := by
  rw [← v_at]
  unfold iblk; rw [View.read_apply]
  show V m c main_v1 _ = _
  refine congrArg (V m c main_v1) (funext fun a => Fin.ext ?_)
  match a with
  | ⟨0, _⟩ => show cc0_transform_1 (grid0.coords t) 0 * 1 + 1 * 0 = (grid0.coords t 0).val; rw [tr1]; show (grid0.coords t 0).val * 1 + 1 * 0 = _; omega
  | ⟨1, _⟩ => show cc0_transform_1 (grid0.coords t) 1 * 8192 + 1 * j.val = j.val; rw [tr1]; show 0 * 8192 + 1 * j.val = _; omega
  | ⟨2, _⟩ => show cc0_transform_1 (grid0.coords t) 2 * 128 + 1 * x.val = (grid0.coords t 1).val * 128 + x.val; rw [tr1]; show (grid0.coords t 1).val * 128 + 1 * x.val = _; omega

theorem blk3_at (t : Fin cfg0.N) (e : Fin 5) (s x : Fin 512) :
    (iblk m c 3 t : Vec Ideal S5x512x512 .f32) (ix3 e s x) = Mix.bias (times (e.val * 512 + s.val) x.val) := by
  rw [← table_at m c]
  unfold iblk; rw [View.read_apply]
  show V m c main_v50 _ = _
  refine congrArg (V m c main_v50) (funext fun a => Fin.ext ?_)
  match a with
  | ⟨0, _⟩ => show 0 * 5 + 1 * e.val = e.val; omega
  | ⟨1, _⟩ => show 0 * 512 + 1 * s.val = s.val; omega
  | ⟨2, _⟩ => show 0 * 512 + 1 * x.val = x.val; omega

theorem blocks (t : Fin cfg0.N) : Blocks (qa m c) (ka m c) (va m c) (bt t) (pr t) (bq t) (grid0.coords t) (iblk m c 0 t) (iblk m c 1 t)
    (iblk m c 2 t) (iblk m c 3 t) where
  hi := rfl
  h0 := blk0_at m c t
  h1 := blk1_at m c t
  h2 := blk2_at m c t
  h3 := blk3_at m c t

/-- What a point writes back is its block of the mixture. -/
theorem flushed_at (t : Fin cfg0.N) (s : Fin 512) (j : Fin 128) :
    (k0_pay7 k0_pay35 (chain (grid0.coords t) (iblk m c 1 t) (iblk m c 2 t) (q2 (iblk m c 0 t)) (iblk m c 3 t) (k0_t1_loop (grid0.coords t)).trips).2.2
        (chain (grid0.coords t) (iblk m c 1 t) (iblk m c 2 t) (q2 (iblk m c 0 t)) (iblk m c 3 t) (k0_t1_loop (grid0.coords t)).trips).2.1
        : Vec Ideal S1x512x128 .bf16) (ix3 0 s j)
      = mixed (qa m c) (ka m c) (va m c) (ix3 (bt t) (qrow (bq t) s) (pcol (pr t) j)) := by
  have he : j.val / 64 < 2 := by omega
  rw [pay7_at _ _ s j ⟨(⟨j.val / 64, he⟩ : Fin 2).val * 512 + s.val, by show j.val / 64 * 512 + s.val < 1024; omega⟩
    (by show j.val / 64 * 512 + s.val = _; split <;> omega)]
  have hj : j = (⟨(⟨j.val / 64, he⟩ : Fin 2).val * 64 + (⟨j.val % 64, by omega⟩ : Fin 64).val, by
      show j.val / 64 * 64 + j.val % 64 < 128; omega⟩ : Fin 128) := Fin.ext (by show j.val = j.val / 64 * 64 + j.val % 64; omega)
  have hp : pcol (pr t) j = col ⟨(pr t).val * 2 + (⟨j.val / 64, he⟩ : Fin 2).val, by have := (pr t).isLt; show (pr t).val * 2 + j.val / 64 < 12; omega⟩ ⟨j.val % 64, by omega⟩ :=
    Fin.ext (by show (pr t).val * 128 + j.val = ((pr t).val * 2 + j.val / 64) * 64 + j.val % 64; omega)
  have hh : (⟨(pcol (pr t) j).val / 64, by have := (pcol (pr t) j).isLt; omega⟩ : Fin 12)
      = ⟨(pr t).val * 2 + (⟨j.val / 64, he⟩ : Fin 2).val, by have := (pr t).isLt; show (pr t).val * 2 + j.val / 64 < 12; omega⟩ :=
    Fin.ext (by show ((pr t).val * 128 + j.val) / 64 = (pr t).val * 2 + j.val / 64; omega)
  unfold mixed
  show _ = Mix.mix _ _ _ (score (qa m c) (ka m c) (bt t) ⟨(pcol (pr t) j).val / 64, _⟩ (qrow (bq t) s)) (fun J => va m c (ix3 (bt t) J (pcol (pr t) j)))
  rw [hh, hp]
  have h := point_at (blocks m c t) ⟨j.val / 64, he⟩ s ⟨j.val % 64, by omega⟩
  rw [← hj] at h
  exact h

/-- The result array after the run. -/
theorem final (c : Dev nD) : (dats m 0 c).arrAt 4 cfg0.N = mixed (qa m c) (ka m c) (va m c) := by
  refine (dats m 0 c).arrAt_eq_of_covers 4 _ (by decide +kernel) fun t hf y => ?_
  have e : (dats m 0 c).after 4 t = k0_pay7 k0_pay35 (chain (grid0.coords t) (iblk m c 1 t) (iblk m c 2 t) (q2 (iblk m c 0 t)) (iblk m c 3 t) (k0_t1_loop (grid0.coords t)).trips).2.2
        (chain (grid0.coords t) (iblk m c 1 t) (iblk m c 2 t) (q2 (iblk m c 0 t)) (iblk m c 3 t) (k0_t1_loop (grid0.coords t)).trips).2.1 := by
    rw [after0_4]; unfold outsAt0; exact out_eq ..
  have hy : y = (ix3 0 (y 1) (y 2) : S1x512x128.Idx) := by
    funext a
    match a with
    | ⟨0, _⟩ => exact Fin.ext (by have : (y 0).val < 1 := (y 0).isLt; show (y 0).val = 0; omega)
    | ⟨1, _⟩ => rfl
    | ⟨2, _⟩ => rfl
  show (dats m 0 c).after 4 t y = _
  rw [e]
  refine ((congrArg _ hy).trans (flushed_at m c t (y 1) (y 2))).trans ?_
  refine congrArg (mixed (qa m c) (ka m c) (va m c)) (funext fun a => Fin.ext ?_)
  match a with
  | ⟨0, _⟩ => have : (y 0).val < 1 := (y 0).isLt; show (grid0.coords t 0).val = cc0_transform_0 (grid0.coords t) 0 * 1 + 1 * (y 0).val; rw [tr0]; show _ = (grid0.coords t 0).val * 1 + 1 * (y 0).val; omega
  | ⟨1, _⟩ => show (grid0.coords t 2).val * 512 + (y 1).val = cc0_transform_0 (grid0.coords t) 1 * 512 + 1 * (y 1).val; rw [tr0]; show _ = (grid0.coords t 2).val * 512 + 1 * (y 1).val; omega
  | ⟨2, _⟩ => show (grid0.coords t 1).val * 128 + (y 2).val = cc0_transform_0 (grid0.coords t) 2 * 128 + 1 * (y 2).val; rw [tr0]; show _ = (grid0.coords t 1).val * 128 + 1 * (y 2).val; omega

/-- The reference's result is the same mixture. -/
theorem reference_eq (q k v : Vec Ideal Cert.ReferenceIdeal.S2x8192x768 .f32) :
    Cert.ReferenceIdeal.Read.val_main_v112 (F := Ideal) q k v = mixed q k v := by
  funext y
  have h2 : (y 2).val < 768 := (y 2).isLt
  have hc : (y 2 : Fin 768) = col ⟨(y 2).val / 64, by omega⟩ ⟨(y 2).val % 64, by omega⟩ := Fin.ext (by show (y 2).val = (y 2).val / 64 * 64 + (y 2).val % 64; omega)
  have hy : y = (ix3 (y 0) (y 1) (col ⟨(y 2).val / 64, by omega⟩ ⟨(y 2).val % 64, by omega⟩) : Cert.ReferenceIdeal.S2x8192x768.Idx) := by
    rw [← hc]
    funext a
    match a with
    | ⟨0, _⟩ => rfl
    | ⟨1, _⟩ => rfl
    | ⟨2, _⟩ => rfl
  refine ((congrArg _ hy).trans (result_at q k v (y 0) ⟨(y 2).val / 64, by omega⟩ (y 1) ⟨(y 2).val % 64, by omega⟩)).trans ?_
  unfold mixed
  rw [← hc]

end Cert.KernelIdeal.Att
-- ==== Proof.AbHost.lean ====
/- The arrays the host makes for the first input projection: the weight's columns as the kernel reads them, and the gains
   as rows. -/
module

public import proofs.«01_k».proof.Proof.Gen.Kernel2Ideal.Value
public import Idealize.ShloMosaic.Lib.Claim
public import Idealize.ShloMosaic.Lib.Pointwise
public import Idealize.ShloMosaic.Lib.Routing.OpsOne

@[expose] public section

set_option maxRecDepth 16384

noncomputable section

namespace Cert.Kernel2Ideal.Ab

open Cert.Kernel2Ideal Cert.Kernel2Ideal.Gen Idealize.ShloMosaic Idealize.ShloMosaic.TcCoe Idealize.SL.Sem Idealize.ShloMosaic.StableHlo

/-! ## The host's arrays -/

variable (m : (ℓ : Loc nD τ sig) → Buf (Elt Ideal) ℓ) (c : Dev nD)

abbrev xa : Vec Ideal S16384x1024 .f32 := m ((c.tc : Thread nD τ).loc main_arg0)
abbrev wa : Vec Ideal S1024x2512 .f32 := m ((c.tc : Thread nD τ).loc main_arg1)
abbrev gq : Vec Ideal S256 .f32 := m ((c.tc : Thread nD τ).loc main_arg2)
abbrev gkv : Vec Ideal S128 .f32 := m ((c.tc : Thread nD τ).loc main_arg3)
abbrev gk : Vec Ideal S64 .f32 := m ((c.tc : Thread nD τ).loc main_arg4)
abbrev bk : Vec Ideal S64 .f32 := m ((c.tc : Thread nD τ).loc main_arg5)

/-- Five arrays of columns beside one another. -/
def beside (a : Vec Ideal S1024x384 .f32) (b : Vec Ideal S1024x72 .f32) (c : Vec Ideal S1024x8 .f32) (d : Vec Ideal S1024x48 .f32)
    (e : Vec Ideal S1024x2048 .f32) : Vec Ideal S1024x2560 .f32 :=
  concatenate S1024x2560 1 [⟨S1024x384, a⟩, ⟨S1024x72, b⟩, ⟨S1024x8, c⟩, ⟨S1024x48, d⟩, ⟨S1024x2048, e⟩]
    concatenates_S1024x384_S1024x72_S1024x8_S1024x48_S1024x2048_S1024x2560_d1

theorem beside_trunc {a a' : Vec Ideal S1024x384 .f32} {b b' : Vec Ideal S1024x72 .f32} {c c' : Vec Ideal S1024x8 .f32} {d d' : Vec Ideal S1024x48 .f32}
    {e e' : Vec Ideal S1024x2048 .f32} (ha : a = a') (hb : b = b') (hc : c = c') (hd : d = d') (he : e = e') :
    truncf (F := Ideal) .bf16 (concatenate S1024x2560 1 [⟨S1024x384, a⟩, ⟨S1024x72, b⟩, ⟨S1024x8, c⟩, ⟨S1024x48, d⟩, ⟨S1024x2048, e⟩]
      concatenates_S1024x384_S1024x72_S1024x8_S1024x48_S1024x2048_S1024x2560_d1 : Vec Ideal S1024x2560 .f32) bitsLt_bf16_f32
      = beside a' b' c' d' e' := by
  subst ha hb hc hd he
  rfl

/-- The weight's columns as the kernel reads them. -/
def cat (w : Vec Ideal S1024x2512 .f32) : Vec Ideal S1024x2560 .f32 :=
  beside (extractStridedSlice S1024x384 ![0, 0] w slices_S1024x2512_S1024x384_0_0)
    (extractStridedSlice S1024x72 ![0, 384] w slices_S1024x2512_S1024x72_0_384)
    (extractStridedSlice S1024x8 ![0, 2504] w slices_S1024x2512_S1024x8_0_2504)
    (broadcastInDim S1024x48 ![] bcast_S_S1024x48 (constant (F := Ideal) S_ .f32 0x00000000#32))
    (extractStridedSlice S1024x2048 ![0, 456] w slices_S1024x2512_S1024x2048_0_456)

/-- Which column of the weight a column is. -/
theorem cat_at (w : Vec Ideal S1024x2512 .f32) (k : Fin 1024) (j : Fin 2560) (i : Fin 2512)
    (h : (j.val < 456 ∧ i.val = j.val) ∨ (456 ≤ j.val ∧ j.val < 464 ∧ i.val = j.val + 2048) ∨ (512 ≤ j.val ∧ i.val + 56 = j.val)) :
    cat w (ix2 k j) = w (ix2 k i) := by
  have key : ∀ i' : Fin 2512, i'.val = i.val → w (ix2 k i') = w (ix2 k i) := fun i' hi => congrArg w (congrArg (ix2 k) (Fin.ext hi))
  pointwise [cat, beside]
  split
  · exact key _ (by show j.val = i.val; omega)
  split
  · exact key _ (by show 384 + (j.val - 384) = i.val; omega)
  split
  · exact key _ (by show 2504 + (j.val - 384 - 72) = i.val; omega)
  split
  · omega
  · exact key _ (by show 456 + (j.val - 384 - 72 - 8 - 48) = i.val; omega)

/-- The columns that are zero. -/
theorem cat_zero (w : Vec Ideal S1024x2512 .f32) (k : Fin 1024) (j : Fin 2560) (h : 464 ≤ j.val) (h' : j.val < 512) : cat w (ix2 k j) = 0 := by
  pointwise [cat, beside]
  rw [dif_neg (by omega), dif_neg (by omega), dif_neg (by omega), dif_pos (by omega)]

set_option maxHeartbeats 4000000 in
theorem cat_eq : (V m c main_v6 : Vec Ideal S1024x2560 .bf16) = cat (wa m c) := by
  unfold wa
  show _ = cat (m (c, Proc.tc.devRef main_arg1) : Vec Ideal S1024x2512 .f32)
  show StableHlo.after hostOps0 (fun b => m (c, b)) (Proc.devRef .tc main_v6) = _
  after_results_simp
  dsimp only [Matrix.cons_val]
  unfold cat
  refine beside_trunc ?_ ?_ ?_ ?_ ?_ <;> after_results_simp

theorem gq_at (l : Fin 256) : (V m c main_v17 : Vec Ideal S1x256 .f32) (ix2 0 l) = gq m c (ix1 l) := by
  unfold gq
  show _ = (m (c, Proc.tc.devRef main_arg2) : Vec Ideal S256 .f32) (ix1 l)
  entry_read
  pointwise

theorem gkv_at (l : Fin 128) : (V m c main_v18 : Vec Ideal S1x128 .f32) (ix2 0 l) = gkv m c (ix1 l) := by
  unfold gkv
  show _ = (m (c, Proc.tc.devRef main_arg3) : Vec Ideal S128 .f32) (ix1 l)
  entry_read
  pointwise

/-- `x.at[0, :n].set(u)` of a row of zeros, read among the `n`. -/
theorem row_set (u : Vec Ideal S64 .f32) (x0 : Vec Ideal S1x128 .f32) (idx : IVec S2 32) (h0 : (idx (ix1 0)).toInt = 0)
    (h1 : (idx (ix1 1)).toInt = 0) (l : Fin 64) :
    Host.scatter scatter_S1x128_S2_S64_0_0_01_0 (fun _ b => b) x0 idx u (ix2 0 ⟨l.val, by omega⟩) = u (ix1 l) := by
  have hst : ∀ (j : S64.Idx) (q : Fin 2), scatter_S1x128_S2_S64_0_0_01_0.start j idx q = 0 := fun j q => by
    refine (Routing.start_pair (R := 1) (C := 128) scatter_S1x128_S2_S64_0_0_01_0 rfl rfl idx j q).trans ?_
    match q with
    | ⟨0, _⟩ => exact h0
    | ⟨1, _⟩ => exact h1
  have hw0 : ∀ j : S64.Idx, scatter_S1x128_S2_S64_0_0_01_0.window j 0 = 0 := fun j => rfl
  have hw1 : ∀ j : S64.Idx, scatter_S1x128_S2_S64_0_0_01_0.window j 1 = (j 0).val := fun j => rfl
  have lands : ∀ j : S64.Idx, scatter_S1x128_S2_S64_0_0_01_0.resultIdx? j idx = some (ix2 0 ⟨l.val, by omega⟩ : S1x128.Idx) ↔ (j 0).val = l.val := fun j => by
    rw [Routing.resultIdx?_eq_some]
    constructor
    · intro h
      have := h 1
      rw [hst, hw1] at this
      have h' : (0 : ℤ) + ((j 0).val : ℤ) = (l.val : ℤ) := this
      omega
    · intro h a
      match a with
      | ⟨0, _⟩ => exact (congrArg₂ (fun (a : ℤ) (b : ℕ) => a + (b : ℤ)) (hst j 0) (hw0 j)).trans rfl
      | ⟨1, _⟩ => exact (congrArg₂ (fun (a : ℤ) (b : ℕ) => a + (b : ℤ)) (hst j 1) (hw1 j)).trans (by show (0 : ℤ) + ((j 0).val : ℤ) = (l.val : ℤ); omega)
  refine Routing.scatter_set_hit _ x0 idx u _ _ (fun j hj => congrArg u (funext fun a => ?_)) (ix1 l) ((lands _).2 rfl)
  match a with
  | ⟨0, _⟩ => exact Fin.ext ((lands j).1 hj)

theorem gk_at (l : Fin 64) : (V m c main_v11 : Vec Ideal S1x128 .f32) (ix2 0 ⟨l.val, by omega⟩) = gk m c (ix1 l) := by
  unfold gk
  show _ = (m (c, Proc.tc.devRef main_arg4) : Vec Ideal S64 .f32) (ix1 l)
  entry_read
  exact row_set _ _ _ rfl rfl l

theorem bk_at (l : Fin 64) : (V m c main_v16 : Vec Ideal S1x128 .f32) (ix2 0 ⟨l.val, by omega⟩) = bk m c (ix1 l) := by
  unfold bk
  show _ = (m (c, Proc.tc.devRef main_arg5) : Vec Ideal S64 .f32) (ix1 l)
  entry_read
  exact row_set _ _ _ rfl rfl l

end Cert.Kernel2Ideal.Ab
-- ==== Proof.AbProj.lean ====
/- The projection into the sparse attention's latents and the gated delta rule's inputs: products of the rows and ranges
   of the weight's columns, three of them normalised, the kernel's and the reference's alike. -/
module

public import proofs.«01_k».proof.Proof.AbHost
public import proofs.«01_k».proof.Proof.Gen.Reference2Ideal.Read
public import Idealize.ShloMosaic.Lib.IdealHost
public import Idealize.ShloMosaic.Lib.Pipeline.Value
public import Idealize.ShloMosaic.Lib.Pipeline.ValueKit.Geometry
public import Idealize.ShloMosaic.Lib.Pipeline.ValueKit.Tiles

@[expose] public section

set_option maxRecDepth 16384

noncomputable section

namespace Cert.Kernel2Ideal.Ab

open Cert.Kernel2Ideal Cert.Kernel2Ideal.Gen Idealize.ShloMosaic Idealize.ShloMosaic.TcCoe Idealize.SL.Sem Idealize.ShloMosaic.StableHlo

/-! ## What is computed -/

/-- Row `r` times column `j`. -/
def prod (x : Vec Ideal S16384x1024 .f32) (w : Vec Ideal S1024x2512 .f32) (r : Fin 16384) (j : Fin 2512) : EReal :=
  ∑ k : Fin 1024, x (ix2 r k) * w (ix2 k j)

/-- A row over its root mean square (`d` entries, `e` added to the mean), times the gains. -/
def rms {n : ℕ} (d e : EReal) (y g : Fin n → EReal) (j : Fin n) : EReal :=
  y j * Ideal.rsqrt (Ideal.div (∑ l, y l * y l) d + e) * g j

/-- A row less its mean over its deviation, times the gains, plus the shifts. -/
def layer {n : ℕ} (d e : EReal) (y g b : Fin n → EReal) (j : Fin n) : EReal :=
  (y j - Ideal.div (∑ l, y l) d)
    * Ideal.rsqrt (Ideal.div (∑ l, (y l - Ideal.div (∑ l, y l) d) * (y l - Ideal.div (∑ l, y l) d)) d + e) * g j + b j

/-! ## The payloads -/

/-- A block's row times a column. -/
def dot {n : ℕ} (v0 : Vec Ideal S512x1024 .f32) (w : Vec Ideal ⟨2, ![1024, n]⟩ .bf16) (s : Fin 512) (j : Fin n) : EReal :=
  ∑ k : Fin 1024, v0 (ix2 s k) * w (ix2 k j)

theorem pay3_at (v0 : Vec Ideal S512x1024 .f32) (v2 : Vec Ideal S1024x256 .bf16) (g : Vec Ideal S1x256 .f32) (s : Fin 512) (j : Fin 256) :
    k0_pay3 v0 v2 g (ix2 s j) = rms (Ideal.ofBits .f32 0x43800000#32) (Ideal.ofBits .f32 0x358637BD#32) (dot v0 v2 s) (fun l => g (ix2 0 l)) j := by
  unfold rms dot
  pointwise [k0_pay3, k0_pay2]

theorem pay5_at (v0 : Vec Ideal S512x1024 .f32) (v2 : Vec Ideal S1024x128 .bf16) (g : Vec Ideal S1x128 .f32) (s : Fin 512) (j : Fin 128) :
    k0_pay5 (k0_pay4 v0 v2 g) (ix2 s j) = rms (Ideal.ofBits .f32 0x43000000#32) (Ideal.ofBits .f32 0x358637BD#32) (dot v0 v2 s) (fun l => g (ix2 0 l)) j := by
  unfold rms dot
  pointwise [k0_pay5, k0_pay4, k0_pay2]

theorem pay6_at (v0 : Vec Ideal S512x1024 .f32) (v2 : Vec Ideal S1024x128 .bf16) (s : Fin 512) (j : Fin 128) :
    k0_pay6 (k0_pay2 v0) v2 (ix2 s j) = dot v0 v2 s j := by
  unfold dot
  pointwise [k0_pay6, k0_pay2]

theorem pay1_at (v0 : Vec Ideal S512x1024 .f32) (v2 : Vec Ideal S1024x2048 .bf16) (s : Fin 512) (j : Fin 2048) :
    k0_pay1 (k0_pay2 v0) v2 (ix2 s j) = dot v0 v2 s j := by
  unfold dot
  pointwise [k0_pay1, k0_pay2]

/-- A lane lies among the first 64. -/
theorem first_lanes (x : Fin 128) : IntOp.cmpi .slt (BitVec.ofNat 32 x.val) 64#32 = if x.val < 64 then 1#1 else 0#1 := by
  revert x; decide +kernel

theorem first_lane (x : Fin 64) : IntOp.cmpi .slt (BitVec.ofNat 32 x.val) 64#32 = 1#1 := by
  revert x; decide +kernel

theorem select_if (p : Prop) [Decidable p] (a b : EReal) : Scalar.select (if p then 1#1 else 0#1) a b = if p then a else b := by
  split <;> rfl

theorem select_one (a b : EReal) : Scalar.select (1#1) a b = a := rfl

/-- A sum over the first 64 of 128 lanes. -/
theorem sum_first (f : Fin 128 → EReal) : (∑ x, if x.val < 64 then f x else 0) = ∑ x : Fin 64, f ⟨x.val, by omega⟩ := by
  refine (Fin.sum_univ_add (a := 64) (b := 64) (fun x : Fin (64 + 64) => if x.val < 64 then f x else 0)).trans ?_
  rw [Finset.sum_eq_zero (s := Finset.univ) (f := fun i : Fin 64 => if (Fin.natAdd 64 i).val < 64 then f (Fin.natAdd 64 i) else 0)
    fun i _ => if_neg (by rw [Fin.val_natAdd]; omega), add_zero]
  exact Finset.sum_congr rfl fun x _ => if_pos x.isLt

/-- Times a sixty-fourth is over 64. -/
theorem mul_eq_div (a : EReal) : a * Ideal.ofBits .f32 0x3C800000#32 = Ideal.div a (Ideal.ofBits .f32 0x42800000#32) := by
  have e : Ideal.ofBits .f32 0x3C800000#32 = ((1 / 64 : ℝ) : EReal) := by
    simp [Ideal.ofBits, Ideal.ieee, -EReal.coe_mul]; norm_num
  have e' : Ideal.ofBits .f32 0x42800000#32 = ((64 : ℝ) : EReal) := by
    simp [Ideal.ofBits, Ideal.ieee, -EReal.coe_mul]; norm_num
  unfold Ideal.div
  rw [e, e', if_neg (by rw [EReal.coe_eq_zero]; norm_num), ← EReal.coe_inv]
  norm_num

theorem pay7_at (v0 : Vec Ideal S512x1024 .f32) (v2 : Vec Ideal S1024x128 .bf16) (g b : Vec Ideal S1x128 .f32) (s : Fin 512) (j : Fin 64) :
    k0_pay7 (k0_pay2 v0) v2 g b (ix2 s j)
      = layer (Ideal.ofBits .f32 0x42800000#32) (Ideal.ofBits .f32 0x3727C5AC#32) (fun l : Fin 64 => dot v0 v2 s ⟨l.val, by omega⟩)
          (fun l => g (ix2 0 ⟨l.val, by omega⟩)) (fun l => b (ix2 0 ⟨l.val, by omega⟩)) j := by
  simp only [← pay6_at]
  unfold k0_pay7
  generalize k0_pay6 (k0_pay2 v0) v2 = y
  unfold layer
  pointwise
  rw [first_lane]
  simp only [first_lanes, select_if, sum_first, mul_eq_div, select_one, Fin.is_lt, if_true]

/-! ## The blocks a point reads -/

variable (m : (ℓ : Loc nD τ sig) → Buf (Elt Ideal) ℓ) (c : Dev nD)

theorem tr0 (i : grid0.Coords) : cc0_transform_0 i = ![(i 0).val, 0] := by
  have h0 : (i 0).val < 32 := (i 0).isLt
  funext a
  match a with
  | ⟨0, _⟩ => show (BitVec.ofNat 32 (i 0).val).toNat = (i 0).val; rw [BitVec.toNat_ofNat]; omega
  | ⟨1, _⟩ => rfl

/-- A row of a point's block, as a row of the array. -/
def row (t : Fin cfg0.N) (s : Fin 512) : Fin 16384 :=
  ⟨(grid0.coords t 0).val * 512 + s.val, by have h : (grid0.coords t 0).val < 32 := (grid0.coords t 0).isLt; omega⟩

abbrev b0 (t : Fin cfg0.N) : Vec Ideal S512x1024 .f32 := iblk m c 0 t
abbrev b1 (t : Fin cfg0.N) : Vec Ideal S1024x2560 .bf16 := iblk m c 1 t
abbrev b2 (t : Fin cfg0.N) : Vec Ideal S1x256 .f32 := iblk m c 2 t
abbrev b3 (t : Fin cfg0.N) : Vec Ideal S1x128 .f32 := iblk m c 3 t
abbrev b4 (t : Fin cfg0.N) : Vec Ideal S1x128 .f32 := iblk m c 4 t
abbrev b5 (t : Fin cfg0.N) : Vec Ideal S1x128 .f32 := iblk m c 5 t

theorem blk0_at (t : Fin cfg0.N) (s : Fin 512) (x : Fin 1024) : b0 m c t (ix2 s x) = xa m c (ix2 (row t s) x) := by
  unfold b0 iblk; rw [View.read_apply]
  show V m c main_arg0 _ = _
  rw [V_main_arg0]
  refine congrArg (m ((c.tc : Thread nD τ).loc main_arg0)) (funext fun a => Fin.ext ?_)
  match a with
  | ⟨0, _⟩ => show cc0_transform_0 (grid0.coords t) 0 * 512 + 1 * s.val = (grid0.coords t 0).val * 512 + s.val; rw [tr0]; show (grid0.coords t 0).val * 512 + 1 * s.val = _; omega
  | ⟨1, _⟩ => show cc0_transform_0 (grid0.coords t) 1 * 1024 + 1 * x.val = x.val; rw [tr0]; show 0 * 1024 + 1 * x.val = _; omega

theorem blk1_at (t : Fin cfg0.N) (k : Fin 1024) (j : Fin 2560) : b1 m c t (ix2 k j) = cat (wa m c) (ix2 k j) := by
  rw [← cat_eq]
  unfold b1 iblk; rw [View.read_apply]
  show V m c main_v6 _ = _
  refine congrArg (V m c main_v6) (funext fun a => Fin.ext ?_)
  match a with
  | ⟨0, _⟩ => show 0 * 1024 + 1 * k.val = k.val; omega
  | ⟨1, _⟩ => show 0 * 2560 + 1 * j.val = j.val; omega

theorem blk2_at (t : Fin cfg0.N) (l : Fin 256) : View.ld (b2 m c t) r0_2 (ix2 0 l) = gq m c (ix1 l) := by
  rw [← gq_at]
  refine (View.ld_unit_apply_of _ _ _ _ _ (ix2 0 l) fun a => match a with
    | ⟨0, _⟩ => rfl
    | ⟨1, _⟩ => (Nat.zero_add _).symm).trans ?_
  unfold b2 iblk; rw [View.read_apply]
  show V m c main_v17 _ = _
  refine congrArg (V m c main_v17) (funext fun a => Fin.ext ?_)
  match a with
  | ⟨0, _⟩ => rfl
  | ⟨1, _⟩ => show 0 * 256 + 1 * l.val = l.val; omega

theorem blk3_at (t : Fin cfg0.N) (l : Fin 128) : View.ld (b3 m c t) r0_5 (ix2 0 l) = gkv m c (ix1 l) := by
  rw [← gkv_at]
  refine (View.ld_unit_apply_of _ _ _ _ _ (ix2 0 l) fun a => match a with
    | ⟨0, _⟩ => rfl
    | ⟨1, _⟩ => (Nat.zero_add _).symm).trans ?_
  unfold b3 iblk; rw [View.read_apply]
  show V m c main_v18 _ = _
  refine congrArg (V m c main_v18) (funext fun a => Fin.ext ?_)
  match a with
  | ⟨0, _⟩ => rfl
  | ⟨1, _⟩ => show 0 * 128 + 1 * l.val = l.val; omega

theorem blk4_at (t : Fin cfg0.N) (l : Fin 64) : View.ld (b4 m c t) r0_5 (ix2 0 ⟨l.val, by omega⟩) = gk m c (ix1 l) := by
  rw [← gk_at]
  refine (View.ld_unit_apply_of _ _ _ _ _ (ix2 0 ⟨l.val, by omega⟩) fun a => match a with
    | ⟨0, _⟩ => rfl
    | ⟨1, _⟩ => (Nat.zero_add _).symm).trans ?_
  unfold b4 iblk; rw [View.read_apply]
  show V m c main_v11 _ = _
  refine congrArg (V m c main_v11) (funext fun a => Fin.ext ?_)
  match a with
  | ⟨0, _⟩ => rfl
  | ⟨1, _⟩ => show 0 * 128 + 1 * l.val = l.val; omega

theorem blk5_at (t : Fin cfg0.N) (l : Fin 64) : View.ld (b5 m c t) r0_5 (ix2 0 ⟨l.val, by omega⟩) = bk m c (ix1 l) := by
  rw [← bk_at]
  refine (View.ld_unit_apply_of _ _ _ _ _ (ix2 0 ⟨l.val, by omega⟩) fun a => match a with
    | ⟨0, _⟩ => rfl
    | ⟨1, _⟩ => (Nat.zero_add _).symm).trans ?_
  unfold b5 iblk; rw [View.read_apply]
  show V m c main_v16 _ = _
  refine congrArg (V m c main_v16) (funext fun a => Fin.ext ?_)
  match a with
  | ⟨0, _⟩ => rfl
  | ⟨1, _⟩ => show 0 * 128 + 1 * l.val = l.val; omega

/-- A product of a point's rows and the columns from `o` on, as they lie. -/
theorem dot_at (t : Fin cfg0.N) (s : Fin 512) {n : ℕ} (o : ℕ) (j : Fin n) (hj : o + j.val < 2560)
    (inb : ∀ a, (![0, o] : Fin 2 → ℕ) a + (![1024, n] : Fin 2 → ℕ) a ≤ S1024x2560.size a) :
    dot (View.ld (b0 m c t) r0_0) (View.ld (b1 m c t) (Rect.unit (s := S1024x2560) ![0, o] ![1024, n] inb)) s j
      = ∑ k : Fin 1024, xa m c (ix2 (row t s) k) * cat (wa m c) (ix2 k ⟨o + j.val, hj⟩) := by
  unfold dot
  refine Finset.sum_congr rfl fun k _ => ?_
  rw [← blk0_at, ← blk1_at m c t k]
  refine congrArg₂ (· * ·) ?_ ?_
  · exact View.ld_unit_apply_of _ _ _ _ _ (ix2 s k) fun a => match a with
      | ⟨0, _⟩ => by show s.val = 0 + s.val; omega
      | ⟨1, _⟩ => by show k.val = 0 + k.val; omega
  · exact View.ld_unit_apply_of _ _ _ _ _ (ix2 k ⟨o + j.val, hj⟩) fun a => match a with
      | ⟨0, _⟩ => by show k.val = 0 + k.val; omega
      | ⟨1, _⟩ => rfl

/-- The same as a product with a column of the weight. -/
theorem dot_prod (t : Fin cfg0.N) (s : Fin 512) {n : ℕ} (o : ℕ) (j : Fin n) (hj : o + j.val < 2560)
    (inb : ∀ a, (![0, o] : Fin 2 → ℕ) a + (![1024, n] : Fin 2 → ℕ) a ≤ S1024x2560.size a) (i : Fin 2512)
    (h : (o + j.val < 456 ∧ i.val = o + j.val) ∨ (456 ≤ o + j.val ∧ o + j.val < 464 ∧ i.val = o + j.val + 2048) ∨ (512 ≤ o + j.val ∧ i.val + 56 = o + j.val)) :
    dot (View.ld (b0 m c t) r0_0) (View.ld (b1 m c t) (Rect.unit (s := S1024x2560) ![0, o] ![1024, n] inb)) s j
      = prod (xa m c) (wa m c) (row t s) i := by
  rw [dot_at m c t s o j hj inb]
  exact Finset.sum_congr rfl fun k _ => congrArg (_ * ·) (cat_at _ k _ i h)

/-! ## The results -/

section Results

variable (x : Vec Ideal S16384x1024 .f32) (w : Vec Ideal S1024x2512 .f32)

def cq (g : Vec Ideal S256 .f32) (z : S16384x256.Idx) : EReal :=
  rms (Ideal.ofBits .f32 0x43800000#32) (Ideal.ofBits .f32 0x358637BD#32) (fun l : Fin 256 => prod x w (z 0) ⟨l.val, by omega⟩) (fun l => g (ix1 l)) (z 1)

def ckv (g : Vec Ideal S128 .f32) (z : S16384x128.Idx) : EReal :=
  rms (Ideal.ofBits .f32 0x43000000#32) (Ideal.ofBits .f32 0x358637BD#32) (fun l : Fin 128 => prod x w (z 0) ⟨256 + l.val, by omega⟩) (fun l => g (ix1 l)) (z 1)

def kidx (g b : Vec Ideal S64 .f32) (z : S16384x64.Idx) : EReal :=
  layer (Ideal.ofBits .f32 0x42800000#32) (Ideal.ofBits .f32 0x3727C5AC#32) (fun l : Fin 64 => prod x w (z 0) ⟨384 + l.val, by omega⟩)
    (fun l => g (ix1 l)) (fun l => b (ix1 l)) (z 1)

def small (z : S16384x128.Idx) : EReal :=
  if h : (z 1).val < 72 then prod x w (z 0) ⟨384 + (z 1).val, by omega⟩
  else if h : (z 1).val < 80 then prod x w (z 0) ⟨2432 + (z 1).val, by omega⟩ else 0

def qkvz (z : S16384x2048.Idx) : EReal :=
  prod x w (z 0) ⟨456 + (z 1).val, by have : (z 1).val < 2048 := (z 1).isLt; omega⟩

end Results

/-- A block that agrees with an array at the rows of its point is the point's part of the array. -/
theorem block_eq (t : Fin cfg0.N) {n : ℕ} (P : (⟨2, ![512, n]⟩ : Shape).Idx → EReal) (G : (⟨2, ![16384, n]⟩ : Shape).Idx → EReal)
    (hP : ∀ (s : Fin 512) (j : Fin n), P (ix2 s j) = G (ix2 (row t s) j))
    (y : (⟨2, ![512, n]⟩ : Shape).Idx) (z : (⟨2, ![16384, n]⟩ : Shape).Idx)
    (h0 : (z 0).val = cc0_transform_0 (grid0.coords t) 0 * 512 + 1 * (y 0).val)
    (h1 : (z 1).val = cc0_transform_0 (grid0.coords t) 1 * n + 1 * (y 1).val) : P y = G z := by
  have hy : y = (ix2 (y 0) (y 1) : (⟨2, ![512, n]⟩ : Shape).Idx) := by
    funext a
    match a with
    | ⟨0, _⟩ => rfl
    | ⟨1, _⟩ => rfl
  rw [tr0] at h0 h1
  have h0' : (z 0).val = (grid0.coords t 0).val * 512 + 1 * (y 0).val := h0
  have h1' : (z 1).val = 0 * n + 1 * (y 1).val := h1
  refine (congrArg P hy).trans ((hP (y 0) (y 1)).trans (congrArg G (funext fun a => Fin.ext ?_)))
  match a with
  | ⟨0, _⟩ => show (grid0.coords t 0).val * 512 + (y 0).val = (z 0).val; omega
  | ⟨1, _⟩ => show (y 1).val = (z 1).val; omega

theorem final6 : (dats m 0 c).arrAt 6 cfg0.N = cq (xa m c) (wa m c) (gq m c) := by
  refine (dats m 0 c).arrAt_eq_of_covers 6 _ (by decide +kernel) fun t hf y => ?_
  have e : (dats m 0 c).after 6 t = k0_pay3 (View.ld (b0 m c t) r0_0) (View.ld (b1 m c t) r0_1) (View.ld (b2 m c t) r0_2) := by
    rw [after0_6]; unfold out0_6; exact View.canon_unit_zero (by funext a; fin_cases a <;> rfl) _ _
  show (dats m 0 c).after 6 t y = _
  rw [e]
  refine block_eq t _ _ (fun s j => (pay3_at _ _ _ s j).trans ?_) y _ rfl rfl
  exact congrArg₂ (fun u v => rms _ _ u v j)
    (funext fun l => dot_prod m c t s 0 l (by omega) _ ⟨l.val, by omega⟩ (Or.inl ⟨by omega, (Nat.zero_add _).symm⟩)) (funext fun l => blk2_at m c t l)

theorem final7 : (dats m 0 c).arrAt 7 cfg0.N = ckv (xa m c) (wa m c) (gkv m c) := by
  refine (dats m 0 c).arrAt_eq_of_covers 7 _ (by decide +kernel) fun t hf y => ?_
  have e : (dats m 0 c).after 7 t = k0_pay5 (k0_pay4 (View.ld (b0 m c t) r0_0) (View.ld (b1 m c t) r0_4) (View.ld (b3 m c t) r0_5)) := by
    rw [after0_7]; unfold out0_7; exact View.canon_unit_zero (by funext a; fin_cases a <;> rfl) _ _
  show (dats m 0 c).after 7 t y = _
  rw [e]
  refine block_eq t _ _ (fun s j => (pay5_at _ _ _ s j).trans ?_) y _ rfl rfl
  exact congrArg₂ (fun u v => rms _ _ u v j)
    (funext fun l => dot_prod m c t s 256 l (by omega) _ ⟨256 + l.val, by omega⟩ (Or.inl ⟨by omega, rfl⟩)) (funext fun l => blk3_at m c t l)

theorem final8 : (dats m 0 c).arrAt 8 cfg0.N = kidx (xa m c) (wa m c) (gk m c) (bk m c) := by
  refine (dats m 0 c).arrAt_eq_of_covers 8 _ (by decide +kernel) fun t hf y => ?_
  have e : (dats m 0 c).after 8 t = k0_pay7 (k0_pay2 (View.ld (b0 m c t) r0_0)) (View.ld (b1 m c t) r0_7) (View.ld (b4 m c t) r0_5) (View.ld (b5 m c t) r0_5) := by
    rw [after0_8]; unfold out0_8 k0_pay8; exact View.canon_unit_zero (by funext a; fin_cases a <;> rfl) _ _
  show (dats m 0 c).after 8 t y = _
  rw [e]
  refine block_eq t _ _ (fun s j => (pay7_at _ _ _ _ s j).trans ?_) y _ rfl rfl
  have h1 : (fun l : Fin 64 => dot (View.ld (b0 m c t) r0_0) (View.ld (b1 m c t) r0_7) s (⟨l.val, by omega⟩ : Fin 128))
      = fun l : Fin 64 => prod (xa m c) (wa m c) (row t s) ⟨384 + l.val, by omega⟩ :=
    funext fun l => dot_prod m c t s 384 (⟨l.val, by omega⟩ : Fin 128) (by show 384 + l.val < _; omega) _ ⟨384 + l.val, by omega⟩
      (Or.inl ⟨by show 384 + l.val < _; omega, rfl⟩)
  rw [h1, show (fun l : Fin 64 => View.ld (b4 m c t) r0_5 (ix2 0 ⟨l.val, by omega⟩)) = fun l => gk m c (ix1 l) from funext fun l => blk4_at m c t l,
    show (fun l : Fin 64 => View.ld (b5 m c t) r0_5 (ix2 0 ⟨l.val, by omega⟩)) = fun l => bk m c (ix1 l) from funext fun l => blk5_at m c t l]
  rfl

theorem final9 : (dats m 0 c).arrAt 9 cfg0.N = small (xa m c) (wa m c) := by
  refine (dats m 0 c).arrAt_eq_of_covers 9 _ (by decide +kernel) fun t hf y => ?_
  have e : (dats m 0 c).after 9 t = k0_pay6 (k0_pay2 (View.ld (b0 m c t) r0_0)) (View.ld (b1 m c t) r0_7) := by
    rw [after0_9]; unfold out0_9 k0_pay8; exact View.canon_unit_zero (by funext a; fin_cases a <;> rfl) _ _
  show (dats m 0 c).after 9 t y = _
  rw [e]
  refine block_eq t _ _ (fun s j => (pay6_at _ _ s j).trans ?_) y _ rfl rfl
  unfold small
  by_cases h : j.val < 72
  · rw [dif_pos (show ((ix2 (row t s) j : S16384x128.Idx) 1).val < 72 from h)]
    exact dot_prod m c t s 384 j (by omega) _ ⟨384 + j.val, by omega⟩ (Or.inl ⟨by omega, rfl⟩)
  · rw [dif_neg (show ¬ ((ix2 (row t s) j : S16384x128.Idx) 1).val < 72 from h)]
    by_cases h' : j.val < 80
    · rw [dif_pos (show ((ix2 (row t s) j : S16384x128.Idx) 1).val < 80 from h')]
      exact dot_prod m c t s 384 j (by omega) _ ⟨2432 + j.val, by omega⟩ (Or.inr (Or.inl ⟨by omega, by omega, by show 2432 + j.val = _; omega⟩))
    · rw [dif_neg (show ¬ ((ix2 (row t s) j : S16384x128.Idx) 1).val < 80 from h')]
      refine (dot_at m c t s 384 j (by omega) _).trans (Finset.sum_eq_zero fun k _ => ?_)
      rw [cat_zero _ _ _ (by show 464 ≤ 384 + j.val; omega) (by show 384 + j.val < 512; omega), mul_zero]

theorem final10 : (dats m 0 c).arrAt 10 cfg0.N = qkvz (xa m c) (wa m c) := by
  refine (dats m 0 c).arrAt_eq_of_covers 10 _ (by decide +kernel) fun t hf y => ?_
  have e : (dats m 0 c).after 10 t = k0_pay1 (k0_pay2 (View.ld (b0 m c t) r0_0)) (View.ld (b1 m c t) r0_9) := by
    rw [after0_10]; unfold out0_10 k0_pay8; exact View.canon_unit_zero (by funext a; fin_cases a <;> rfl) _ _
  show (dats m 0 c).after 10 t y = _
  rw [e]
  refine block_eq t _ _ (fun s j => (pay1_at _ _ s j).trans ?_) y _ rfl rfl
  exact dot_prod m c t s 512 j (by omega) _ ⟨456 + j.val, by omega⟩ (Or.inr (Or.inr ⟨by omega, by show 456 + j.val + 56 = _; omega⟩))

end Cert.Kernel2Ideal.Ab

namespace Cert.Reference2Ideal.Ab

open Cert.Reference2Ideal Cert.Reference2Ideal.Read Idealize.ShloMosaic Cert.Kernel2Ideal.Ab

variable (x : Vec Ideal S16384x1024 .f32) (w : Vec Ideal S1024x2512 .f32)

theorem y_at (z : S16384x2512.Idx) : val_main_v0 (F := Ideal) x w z = prod x w (z 0) (z 1) := by
  rw [val_main_v0_apply]
  unfold prod
  refine Finset.sum_congr rfl fun k _ => congrArg₂ (· * ·) (congrArg x ?_) (congrArg w ?_)
  · funext a
    match a with
    | ⟨0, _⟩ => rfl
    | ⟨1, _⟩ => rfl
  · funext a
    match a with
    | ⟨0, _⟩ => rfl
    | ⟨1, _⟩ => rfl

theorem v62_eq : val_main_v62 (F := Ideal) x w = qkvz x w := by
  funext z
  rw [val_main_v62_apply, y_at]
  rfl

/-- A sum from zero. -/
theorem zero_sum {n : ℕ} (f h : Fin n → EReal) (e : ∀ k, f k = h k) : Ideal.ofBits .f32 0x00000000#32 + ∑ k, f k = ∑ k, h k :=
  (congrArg (· + _) Ideal.ofBits_zero_f32).trans ((zero_add _).trans (Finset.sum_congr rfl fun k _ => e k))

theorem at_col {n : ℕ} (g : (⟨1, ![n]⟩ : Shape).Idx → EReal) (y : (⟨1, ![n]⟩ : Shape).Idx) (j : Fin n) (h : (y 0).val = j.val) : g y = g (ix1 j) := by
  refine congrArg g (funext fun a => Fin.ext ?_)
  match a with
  | ⟨0, _⟩ => exact h

theorem v59_eq (g : Vec Ideal S256 .f32) : val_main_v59 (F := Ideal) x w g = cq x w g := by
  funext z
  simp only [val_main_v59_apply, val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply, val_main_cst_apply,
    val_main_cst_0_apply, val_main_cst_1_apply, val_main_v1_apply, y_at]
  unfold cq rms
  exact congrArg₂ (· * ·) (congrArg₂ (· * ·) rfl (congrArg Ideal.rsqrt (congrArg₂ (· + ·) (congrArg₂ Ideal.div (zero_sum _ _ fun _ => rfl) rfl) rfl)))
    (at_col g _ (z 1) rfl)

theorem v60_eq (g : Vec Ideal S128 .f32) : val_main_v60 (F := Ideal) x w g = ckv x w g := by
  funext z
  simp only [val_main_v60_apply, val_main_v29_apply, val_main_v28_apply, val_main_v27_apply, val_main_v26_apply, val_main_v25_apply, val_main_v24_apply,
    val_main_v23_apply, val_main_v22_apply, val_main_v21_apply, val_main_v20_apply, val_main_v19_apply, val_main_v18_apply, val_main_v17_apply, val_main_cst_2_apply,
    val_main_cst_3_apply, val_main_cst_4_apply, val_main_v2_apply, y_at]
  unfold ckv rms
  exact congrArg₂ (· * ·) (congrArg₂ (· * ·) rfl (congrArg Ideal.rsqrt (congrArg₂ (· + ·) (congrArg₂ Ideal.div (zero_sum _ _ fun _ => rfl) rfl) rfl)))
    (at_col g _ (z 1) rfl)

/-- The mean of the index keys of a row. -/
theorem mean_at (z : S16384x1.Idx) : val_main_v33 (F := Ideal) x w z
    = Ideal.div (∑ l : Fin 64, prod x w (z 0) ⟨384 + l.val, by omega⟩) (Ideal.ofBits .f32 0x42800000#32) := by
  simp only [val_main_v33_apply, val_main_v32_apply, val_main_v31_apply, val_main_v30_apply, val_main_v3_apply, y_at, val_main_cst_5_apply, val_main_cst_6_apply]
  exact congrArg₂ Ideal.div (zero_sum _ _ fun _ => rfl) rfl

theorem v61_eq (g b : Vec Ideal S64 .f32) : val_main_v61 (F := Ideal) x w g b = kidx x w g b := by
  funext z
  simp only [val_main_v61_apply, val_main_v53_apply, val_main_v52_apply, val_main_v51_apply, val_main_v50_apply, val_main_v49_apply, val_main_v48_apply,
    val_main_v47_apply, val_main_v46_apply, val_main_v45_apply, val_main_v44_apply, val_main_v43_apply, val_main_v42_apply, val_main_v41_apply,
    val_main_v40_apply, val_main_v39_apply, val_main_v38_apply, val_main_v37_apply, val_main_v36_apply, val_main_v35_apply, val_main_v34_apply,
    mean_at, val_main_v3_apply, y_at, val_main_cst_7_apply, val_main_cst_8_apply, val_main_cst_9_apply]
  unfold kidx layer
  exact congrArg₂ (· + ·) (congrArg₂ (· * ·) (congrArg₂ (· * ·) rfl (congrArg Ideal.rsqrt
    (congrArg₂ (· + ·) (congrArg₂ Ideal.div (zero_sum _ _ fun _ => rfl) rfl) rfl))) (at_col g _ (z 1) rfl)) (at_col b _ (z 1) rfl)

theorem v58_eq : val_main_v58 (F := Ideal) x w = small x w := by
  funext z
  have hz : (z 1).val < 128 := (z 1).isLt
  have key : ∀ (r : Fin 16384) (i j : Fin 2512), r = z 0 → i.val = j.val → prod x w r i = prod x w (z 0) j :=
    fun r i j hr h => by rw [hr, Fin.ext h]
  unfold val_main_v58
  pointwise
  unfold small
  simp only [val_main_v3_apply, val_main_v54_apply, val_main_v55_apply, val_main_v56_apply, val_main_v57_apply, y_at, val_main_cst_10_apply]
  by_cases h1 : (z 1).val < 64
  · rw [dif_pos h1, dif_pos (by omega)]
    exact key _ _ _ rfl rfl
  rw [dif_neg h1]
  by_cases h2 : (z 1).val < 72
  · rw [dif_pos (by omega), dif_pos h2]
    exact key _ _ _ rfl (by show 448 + ((z 1).val - 64) = 384 + (z 1).val; omega)
  rw [dif_neg (by omega), dif_neg h2]
  by_cases h3 : (z 1).val < 76
  · rw [dif_pos (by omega), dif_pos (by omega)]
    exact key _ _ _ rfl (by show 2504 + ((z 1).val - 64 - 8) = 2432 + (z 1).val; omega)
  rw [dif_neg (by omega)]
  by_cases h4 : (z 1).val < 80
  · rw [dif_pos (by omega), dif_pos h4]
    exact key _ _ _ rfl (by show 2508 + ((z 1).val - 64 - 8 - 4) = 2432 + (z 1).val; omega)
  rw [dif_neg (by omega), dif_neg h4]
  exact Ideal.ofBits_zero_f32

end Cert.Reference2Ideal.Ab
-- ==== Proof.CdProj.lean ====
/- The projection into the queries, keys, values and gates of the layer's two other mixers: each result is a product of
   the rows and a range of the weight's columns, the kernel's and the reference's alike. -/
module

public import proofs.«01_k».proof.Proof.Gen.Kernel3Ideal.Value
public import proofs.«01_k».proof.Proof.Gen.Reference3Ideal.Read
public import Idealize.ShloMosaic.Lib.Claim
public import Idealize.ShloMosaic.Lib.Pointwise
public import Idealize.ShloMosaic.Lib.Pipeline.Value
public import Idealize.ShloMosaic.Lib.Pipeline.ValueKit.Geometry
public import Idealize.ShloMosaic.Lib.Pipeline.ValueKit.Tiles

@[expose] public section

set_option maxRecDepth 16384

noncomputable section

namespace Cert.Kernel3Ideal.Cd

open Cert.Kernel3Ideal Cert.Kernel3Ideal.Gen Idealize.ShloMosaic Idealize.ShloMosaic.TcCoe Idealize.SL.Sem Idealize.ShloMosaic.StableHlo

/-- Row `r` times column `j`. -/
def prod (x : Vec Ideal S16384x1024 .f32) (w : Vec Ideal S1024x2560 .f32) (r : Fin 16384) (j : Fin 2560) : EReal :=
  ∑ k : Fin 1024, x (ix2 r k) * w (ix2 k j)

variable (m : (ℓ : Loc nD τ sig) → Buf (Elt Ideal) ℓ) (c : Dev nD)

abbrev xa : Vec Ideal S16384x1024 .f32 := m ((c.tc : Thread nD τ).loc main_arg0)
abbrev wa : Vec Ideal S1024x2560 .f32 := m ((c.tc : Thread nD τ).loc main_arg1)

theorem w_at (k : Fin 1024) (j : Fin 2560) : (V m c main_v0 : Vec Ideal S1024x2560 .bf16) (ix2 k j) = wa m c (ix2 k j) := by
  unfold wa
  show _ = (m (c, Proc.tc.devRef main_arg1) : Vec Ideal S1024x2560 .f32) (ix2 k j)
  entry_read
  pointwise

theorem tr0 (i : grid0.Coords) : cc0_transform_0 i = ![(i 0).val, 0] := by
  have h0 : (i 0).val < 32 := (i 0).isLt
  funext a
  match a with
  | ⟨0, _⟩ => show (BitVec.ofNat 32 (i 0).val).toNat = (i 0).val; rw [BitVec.toNat_ofNat]; omega
  | ⟨1, _⟩ => rfl

/-- A row of a point's block, as a row of the array. -/
def row (t : Fin cfg0.N) (s : Fin 512) : Fin 16384 :=
  ⟨(grid0.coords t 0).val * 512 + s.val, by have h : (grid0.coords t 0).val < 32 := (grid0.coords t 0).isLt; omega⟩

theorem blk0_at (t : Fin cfg0.N) (s : Fin 512) (x : Fin 1024) :
    (iblk m c 0 t : Vec Ideal S512x1024 .f32) (ix2 s x) = xa m c (ix2 (row t s) x) := by
  unfold iblk; rw [View.read_apply]
  show V m c main_arg0 _ = _
  rw [V_main_arg0]
  refine congrArg (m ((c.tc : Thread nD τ).loc main_arg0)) (funext fun a => Fin.ext ?_)
  match a with
  | ⟨0, _⟩ => show cc0_transform_0 (grid0.coords t) 0 * 512 + 1 * s.val = (grid0.coords t 0).val * 512 + s.val; rw [tr0]; show (grid0.coords t 0).val * 512 + 1 * s.val = _; omega
  | ⟨1, _⟩ => show cc0_transform_0 (grid0.coords t) 1 * 1024 + 1 * x.val = x.val; rw [tr0]; show 0 * 1024 + 1 * x.val = _; omega

theorem blk1_at (t : Fin cfg0.N) (k : Fin 1024) (j : Fin 2560) :
    (iblk m c 1 t : Vec Ideal S1024x2560 .bf16) (ix2 k j) = wa m c (ix2 k j) := by
  rw [← w_at]
  unfold iblk; rw [View.read_apply]
  show V m c main_v0 _ = _
  refine congrArg (V m c main_v0) (funext fun a => Fin.ext ?_)
  match a with
  | ⟨0, _⟩ => show 0 * 1024 + 1 * k.val = k.val; omega
  | ⟨1, _⟩ => show 0 * 2560 + 1 * j.val = j.val; omega

theorem pay2_at (v0 : Vec Ideal S512x1024 .f32) (v2 : Vec Ideal S1024x768 .bf16) (s : Fin 512) (j : Fin 768) :
    k0_pay2 v0 v2 (ix2 s j) = ∑ k : Fin 1024, v0 (ix2 s k) * v2 (ix2 k j) := by
  pointwise [k0_pay2, k0_pay1]

theorem pay3_at (v0 : Vec Ideal S512x1024 .f32) (v2 : Vec Ideal S1024x768 .bf16) (s : Fin 512) (j : Fin 768) :
    k0_pay3 v0 v2 (ix2 s j) = ∑ k : Fin 1024, v0 (ix2 s k) * v2 (ix2 k j) := by
  pointwise [k0_pay3, k0_pay1]

theorem pay4_at (v0 : Vec Ideal S512x1024 .f32) (v2 : Vec Ideal S1024x768 .bf16) (s : Fin 512) (j : Fin 768) :
    k0_pay4 v0 v2 (ix2 s j) = ∑ k : Fin 1024, v0 (ix2 s k) * v2 (ix2 k j) := by
  pointwise [k0_pay4, k0_pay1]

theorem pay5_at (v0 : Vec Ideal S512x1024 .f32) (v2 : Vec Ideal S1024x256 .bf16) (s : Fin 512) (j : Fin 256) :
    k0_pay5 v0 v2 (ix2 s j) = ∑ k : Fin 1024, v0 (ix2 s k) * v2 (ix2 k j) := by
  pointwise [k0_pay5, k0_pay1]

/-- The blocks a point reads. -/
abbrev b0 (t : Fin cfg0.N) : Vec Ideal S512x1024 .f32 := iblk m c 0 t
abbrev b1 (t : Fin cfg0.N) : Vec Ideal S1024x2560 .bf16 := iblk m c 1 t

/-- A product of a point's rows and the columns from `o` on. -/
theorem sum_at (t : Fin cfg0.N) (s : Fin 512) {n : ℕ} (o : ℕ) (j : Fin n) (hj : o + j.val < 2560)
    (inb : ∀ a, (![0, o] : Fin 2 → ℕ) a + (![1024, n] : Fin 2 → ℕ) a ≤ S1024x2560.size a) :
    (∑ k : Fin 1024, (View.ld (b0 m c t) r0_0 : Vec Ideal S512x1024 .f32) (ix2 s k)
        * (View.ld (b1 m c t) (Rect.unit (s := S1024x2560) ![0, o] ![1024, n] inb) : Vec Ideal ⟨2, ![1024, n]⟩ .bf16) (ix2 k j))
      = prod (xa m c) (wa m c) (row t s) ⟨o + j.val, hj⟩ := by
  refine Finset.sum_congr rfl fun k _ => ?_
  rw [← blk0_at, ← blk1_at m c t k]
  refine congrArg₂ (· * ·) ?_ ?_
  · exact View.ld_unit_apply_of _ _ _ _ _ (ix2 s k) fun a => match a with
      | ⟨0, _⟩ => by show s.val = 0 + s.val; omega
      | ⟨1, _⟩ => by show k.val = 0 + k.val; omega
  · exact View.ld_unit_apply_of _ _ _ _ _ (ix2 k ⟨o + j.val, hj⟩) fun a => match a with
      | ⟨0, _⟩ => by show k.val = 0 + k.val; omega
      | ⟨1, _⟩ => rfl

/-- The columns from `o` on, as an array of its own. -/
def cols (o n : ℕ) (h : o + n ≤ 2560) (x : Vec Ideal S16384x1024 .f32) (w : Vec Ideal S1024x2560 .f32)
    (y : (⟨2, ![16384, n]⟩ : Shape).Idx) : EReal :=
  prod x w (y 0) ⟨o + (y 1).val, by have : (y 1).val < n := (y 1).isLt; omega⟩

/-- A block that holds the products of a point's rows and the columns from `o` on is the point's part of `cols`. -/
theorem block_eq (t : Fin cfg0.N) {n : ℕ} (o : ℕ) (h : o + n ≤ 2560)
    (inb : ∀ a, (![0, o] : Fin 2 → ℕ) a + (![1024, n] : Fin 2 → ℕ) a ≤ S1024x2560.size a)
    (P : (⟨2, ![512, n]⟩ : Shape).Idx → EReal)
    (hP : ∀ (s : Fin 512) (j : Fin n), P (ix2 s j) = ∑ k : Fin 1024, (View.ld (b0 m c t) r0_0 : Vec Ideal S512x1024 .f32) (ix2 s k)
        * (View.ld (b1 m c t) (Rect.unit (s := S1024x2560) ![0, o] ![1024, n] inb) : Vec Ideal ⟨2, ![1024, n]⟩ .bf16) (ix2 k j))
    (y : (⟨2, ![512, n]⟩ : Shape).Idx) (z : (⟨2, ![16384, n]⟩ : Shape).Idx)
    (h0 : (z 0).val = cc0_transform_0 (grid0.coords t) 0 * 512 + 1 * (y 0).val)
    (h1 : (z 1).val = cc0_transform_0 (grid0.coords t) 1 * n + 1 * (y 1).val) :
    P y = cols o n h (xa m c) (wa m c) z := by
  have h1n : (y 1).val < n := (y 1).isLt
  have hy : y = (ix2 (y 0) (y 1) : (⟨2, ![512, n]⟩ : Shape).Idx) := by
    funext a
    match a with
    | ⟨0, _⟩ => rfl
    | ⟨1, _⟩ => rfl
  rw [tr0] at h0 h1
  have h0' : (z 0).val = (grid0.coords t 0).val * 512 + 1 * (y 0).val := h0
  have h1' : (z 1).val = 0 * n + 1 * (y 1).val := h1
  refine (congrArg P hy).trans ((hP (y 0) (y 1)).trans ((sum_at m c t (y 0) o (y 1) (by omega) inb).trans ?_))
  unfold cols
  refine congrArg₂ (prod _ _) (Fin.ext ?_) (Fin.ext ?_)
  · show (grid0.coords t 0).val * 512 + (y 0).val = (z 0).val; omega
  · show o + (y 1).val = o + (z 1).val; omega

theorem final2 : (dats m 0 c).arrAt 2 cfg0.N = cols 0 768 (by norm_num) (xa m c) (wa m c) := by
  refine (dats m 0 c).arrAt_eq_of_covers 2 _ (by decide +kernel) fun t hf y => ?_
  have e : (dats m 0 c).after 2 t = k0_pay2 (View.ld (b0 m c t) r0_0) (View.ld (b1 m c t) r0_1) := by
    rw [after0_2]; unfold out0_2; exact View.canon_unit_zero (by funext a; fin_cases a <;> rfl) _ _
  show (dats m 0 c).after 2 t y = _
  rw [e]
  exact block_eq m c t 0 _ _ _ (pay2_at _ _) y _ rfl rfl

theorem final3 : (dats m 0 c).arrAt 3 cfg0.N = cols 768 768 (by norm_num) (xa m c) (wa m c) := by
  refine (dats m 0 c).arrAt_eq_of_covers 3 _ (by decide +kernel) fun t hf y => ?_
  have e : (dats m 0 c).after 3 t = k0_pay3 (View.ld (b0 m c t) r0_0) (View.ld (b1 m c t) r0_3) := by
    rw [after0_3]; unfold out0_3; exact View.canon_unit_zero (by funext a; fin_cases a <;> rfl) _ _
  show (dats m 0 c).after 3 t y = _
  rw [e]
  exact block_eq m c t 768 _ _ _ (pay3_at _ _) y _ rfl rfl

theorem final4 : (dats m 0 c).arrAt 4 cfg0.N = cols 1536 768 (by norm_num) (xa m c) (wa m c) := by
  refine (dats m 0 c).arrAt_eq_of_covers 4 _ (by decide +kernel) fun t hf y => ?_
  have e : (dats m 0 c).after 4 t = k0_pay4 (View.ld (b0 m c t) r0_0) (View.ld (b1 m c t) r0_4) := by
    rw [after0_4]; unfold out0_4; exact View.canon_unit_zero (by funext a; fin_cases a <;> rfl) _ _
  show (dats m 0 c).after 4 t y = _
  rw [e]
  exact block_eq m c t 1536 _ _ _ (pay4_at _ _) y _ rfl rfl

theorem final5 : (dats m 0 c).arrAt 5 cfg0.N = cols 2304 256 (by norm_num) (xa m c) (wa m c) := by
  refine (dats m 0 c).arrAt_eq_of_covers 5 _ (by decide +kernel) fun t hf y => ?_
  have e : (dats m 0 c).after 5 t = k0_pay5 (View.ld (b0 m c t) r0_0) (View.ld (b1 m c t) r0_5) := by
    rw [after0_5]; unfold out0_5; exact View.canon_unit_zero (by funext a; fin_cases a <;> rfl) _ _
  show (dats m 0 c).after 5 t y = _
  rw [e]
  exact block_eq m c t 2304 _ _ _ (pay5_at _ _) y _ rfl rfl

end Cert.Kernel3Ideal.Cd

namespace Cert.Reference3Ideal.Cd

open Cert.Reference3Ideal Cert.Reference3Ideal.Read Idealize.ShloMosaic Cert.Kernel3Ideal.Cd

variable (x : Vec Ideal S16384x1024 .f32) (w : Vec Ideal S1024x2560 .f32)

theorem y_at (z : S16384x2560.Idx) : val_main_v0 (F := Ideal) x w z = prod x w (z 0) (z 1) := by
  rw [val_main_v0_apply]
  unfold prod
  refine Finset.sum_congr rfl fun k _ => congrArg₂ (· * ·) (congrArg x ?_) (congrArg w ?_)
  · funext a
    match a with
    | ⟨0, _⟩ => rfl
    | ⟨1, _⟩ => rfl
  · funext a
    match a with
    | ⟨0, _⟩ => rfl
    | ⟨1, _⟩ => rfl

theorem v1_eq : val_main_v1 (F := Ideal) x w = cols 0 768 (by norm_num) x w := by
  funext y
  rw [val_main_v1_apply, y_at]
  exact congrArg₂ (prod x w) rfl (Fin.ext (by show _ = 0 + (y 1).val; rw [Nat.zero_add]))

theorem v3_eq : val_main_v3 (F := Ideal) x w = cols 768 768 (by norm_num) x w := by
  funext y
  rw [val_main_v3_apply, val_main_v2_apply, y_at]
  rfl

theorem v5_eq : val_main_v5 (F := Ideal) x w = cols 1536 768 (by norm_num) x w := by
  funext y
  rw [val_main_v5_apply, val_main_v4_apply, y_at]
  rfl

theorem v6_eq : val_main_v6 (F := Ideal) x w = cols 2304 256 (by norm_num) x w := by
  funext y
  rw [val_main_v6_apply, y_at]
  rfl

end Cert.Reference3Ideal.Cd
-- ==== Proof.MoeRun.lean ====
/- One point of the experts' grid: what the body leaves in the scratch buffers and in the output block, in each of the
   ways its conditions on the table's words can fall. -/
module

public import proofs.«01_k».proof.Proof.Gen.Kernel4Ideal.Skeleton
public import proofs.«01_k».proof.Proof.Gen.Kernel4Ideal.Launch
public import Idealize.ShloMosaic.Lib.Pipeline.FrameBody
public import Idealize.ShloMosaic.Lib.Pipeline.Value
public import Idealize.ShloMosaic.Lib.Exec
public import Idealize.ShloMosaic.Lib.Pointwise
public import Idealize.ShloMosaic.Lib.WordCmp
public import Idealize.ShloMosaic.Lib.VecWindow

@[expose] public section

set_option maxRecDepth 16384

noncomputable section

namespace Cert.Kernel4Ideal.Moe

open Cert.Kernel4Ideal Cert.Kernel4Ideal.Gen Idealize.ShloMosaic Idealize.ShloMosaic.TcCoe
open Idealize.SL Idealize.SL.RA Idealize.SL.BI Idealize.SL.ProofMode
open scoped Idealize.SL.BI
open Idealize.SL.BI.BIBase Idealize.SL.Sem

variable {F : FTy → Type} [FloatOps F]

local notation "𝕄" => MT nD τ sig Unit (Elt F) ℕ (UR sig nD τ) ℕ

abbrev tbE : Memref sig .tc .smem S288 .i32 := Memref.whole main_v19
abbrev tbN : Memref sig .tc .smem S1 .i32 := Memref.whole main_v21

/-- A table's buffer on core `c` and it held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-! ## What the scratch buffers hold -/

/-- The block of an expert's first weight, read at a row and a column. -/
abbrev at4 {n : ℕ} {α : Type} (w : (⟨4, ![1, 1, 1024, n]⟩ : Shape).Idx → α) (r : Fin 1024) (k : Fin n) : α :=
  w (ix4 0 0 r k)

/-- The first weight, transposed: row `8 k + j` holds the rows `128 j …` of column `k`. -/
def wt (w : Vec F S1x1x1024x2048 .f32) : Vec F S16384x128 .f32 := fun y =>
  have h0 : (y 0).val < 16384 := (y 0).isLt
  have h1 : (y 1).val < 128 := (y 1).isLt
  at4 w ⟨(y 0).val % 8 * 128 + (y 1).val, by omega⟩ ⟨(y 0).val / 8, by omega⟩

/-- Its even columns, and its odd ones. -/
def wg (w : Vec F S1x1x1024x2048 .f32) : Vec F S1024x1024 .bf16 := fun y =>
  have h0 : (y 0).val < 1024 := (y 0).isLt
  FloatOps.truncf .bf16 bitsLt_bf16_f32 (at4 w (y 1) ⟨2 * (y 0).val, by omega⟩)

def wu (w : Vec F S1x1x1024x2048 .f32) : Vec F S1024x1024 .bf16 := fun y =>
  have h0 : (y 0).val < 1024 := (y 0).isLt
  FloatOps.truncf .bf16 bitsLt_bf16_f32 (at4 w (y 1) ⟨2 * (y 0).val + 1, by omega⟩)

/-- The second weight. -/
def wd (w : Vec F S1x1x1024x1024 .f32) : Vec F S1024x1024 .bf16 := k0_pay1 (k0_pay62 w)

theorem at4_congr {n : ℕ} {α : Type} (w : (⟨4, ![1, 1, 1024, n]⟩ : Shape).Idx → α) {r r' : Fin 1024} {k k' : Fin n} (hr : r.val = r'.val) (hk : k.val = k'.val) :
    at4 w r k = at4 w r' k' := by rw [Fin.ext hr, Fin.ext hk]

/-- A slice of the transpose of 512 of the columns. -/
theorem slice_at (v : Vec F S1x1x1024x512 .f32) (o : ℕ) (ho : o + 128 ≤ 1024) (hs : S512x1024.Slices ![0, o] S512x128) (x : S512x128.Idx) :
    shapeCast S512x128 (extractStridedSlice S512x128 ![0, o] (k0_pay4 v) hs) shapeCasts_S512x128_S512x128 x
      = at4 v ⟨o + (x 1).val, by have h1 : (x 1).val < 128 := (x 1).isLt; omega⟩ (x 0) := by
  unfold at4 k0_pay4
  pointwise

/-- A strip of the transpose the body writes: rows `a`, `a + 8`, … -/
theorem strip_at (arg4 : Memref sig .tc .vmem S1x1x1024x2048 .f32) (harg4 : arg4.IsWhole) (w : Vec F S1x1x1024x2048 .f32) (a o c : ℕ)
    (hs : S512x1024.Slices ![0, o] S512x128) (h1) (h2) (h3) (x : S512x128.Idx) (ho : o = a % 8 * 128) (hc : c = a / 8) :
    shapeCast S512x128 (extractStridedSlice S512x128 ![0, o] (k0_pay4 (View.readAt (Elt F) arg4.view
        (Rect.unit (s := S1x1x1024x2048) ![0, 0, 0, c] S1x1x1024x512.size h3).toLoadRect (harg4.unread w))) hs) shapeCasts_S512x128_S512x128 x
      = wt w ((⟨⟨![a, 0], S512x128.size, ![8, 1], h1⟩, h2⟩ : Rect S16384x128).emb x) := by
  have h0 : (x 0).val < 512 := (x 0).isLt
  have hx1 : (x 1).val < 128 := (x 1).isLt
  rw [slice_at _ o (by omega), View.readAt_eq_ld, harg4.read_unread]
  unfold wt at4 View.ld
  refine congrArg w (funext fun b => Fin.ext ?_)
  match b with
  | ⟨0, _⟩ => rfl
  | ⟨1, _⟩ => rfl
  | ⟨2, _⟩ => show 0 + 1 * (o + (x 1).val) = (a + 8 * (x 0).val) % 8 * 128 + (0 + 1 * (x 1).val); omega
  | ⟨3, _⟩ => show c + 1 * (x 0).val = (a + 8 * (x 0).val) / 8; omega

theorem mem_strip (a : ℕ) (h1) (ha : a % 4096 < 8) (y : S16384x128.Idx) :
    y ∈ (⟨![a, 0], ![512, 128], ![8, 1], h1⟩ : LoadRect S16384x128).set ↔ a = (y 0).val / 4096 * 4096 + (y 0).val % 8 := by
  have h0 : (y 0).val < 16384 := (y 0).isLt
  have hy1 : (y 1).val < 128 := (y 1).isLt
  rw [LoadRect.mem_set]
  constructor
  · intro h
    obtain ⟨j, hj, e⟩ := h 0
    replace hj : j < 512 := hj
    replace e : (y 0).val = a + 8 * j := e
    omega
  · intro h b
    match b with
    | ⟨0, _⟩ => exact ⟨((y 0).val - a) / 8, by show _ < 512; omega, by show (y 0).val = a + 8 * (((y 0).val - a) / 8); omega⟩
    | ⟨1, _⟩ => exact ⟨(y 1).val, hy1, by show (y 1).val = 0 + 1 * (y 1).val; omega⟩

/-- Which of the 32 strips a row lies in. -/
theorem strip_of (y : S16384x128.Idx) : ∃ (q : Fin 4) (j : Fin 8), (y 0).val / 4096 * 4096 + (y 0).val % 8 = q.val * 4096 + j.val := by
  have h0 : (y 0).val < 16384 := (y 0).isLt
  exact ⟨⟨(y 0).val / 4096, by omega⟩, ⟨(y 0).val % 8, by omega⟩, rfl⟩

/-- 128 columns of a half of the weight, read off the transpose. -/
theorem even_at (arg10 : Memref sig .tc .vmem S16384x128 .f32) (f) (w : Vec F S1x1x1024x2048 .f32) (hT : arg10.view.read (Elt F) f = wt w)
    (a o : ℕ) (h1) (h2) (x : S1024x128.Idx) (ha : a < 8) (ho : o = a * 128) :
    shapeCast S1024x128 (truncf .bf16 (View.readAt (Elt F) arg10.view ⟨![a, 0], S1024x128.size, ![16, 1], h1⟩ f) bitsLt_bf16_f32) shapeCasts_S1024x128_S1024x128 x
      = wg w ((Rect.unit (s := S1024x1024) ![0, o] S1024x128.size h2).emb x) := by
  have h0 : (x 0).val < 1024 := (x 0).isLt
  have hx1 : (x 1).val < 128 := (x 1).isLt
  rw [shapeCast_id]
  show FloatOps.truncf .bf16 bitsLt_bf16_f32 (arg10.view.read (Elt F) f _) = _
  rw [hT]
  unfold wt wg
  refine congrArg _ (at4_congr w ?_ ?_)
  · show (a + 16 * (x 0).val) % 8 * 128 + (0 + 1 * (x 1).val) = o + 1 * (x 1).val; omega
  · show (a + 16 * (x 0).val) / 8 = 2 * (0 + 1 * (x 0).val); omega

theorem odd_at (arg10 : Memref sig .tc .vmem S16384x128 .f32) (f) (w : Vec F S1x1x1024x2048 .f32) (hT : arg10.view.read (Elt F) f = wt w)
    (a o : ℕ) (h1) (h2) (x : S1024x128.Idx) (ha : 8 ≤ a ∧ a < 16) (ho : o = (a - 8) * 128) :
    shapeCast S1024x128 (truncf .bf16 (View.readAt (Elt F) arg10.view ⟨![a, 0], S1024x128.size, ![16, 1], h1⟩ f) bitsLt_bf16_f32) shapeCasts_S1024x128_S1024x128 x
      = wu w ((Rect.unit (s := S1024x1024) ![0, o] S1024x128.size h2).emb x) := by
  have h0 : (x 0).val < 1024 := (x 0).isLt
  have hx1 : (x 1).val < 128 := (x 1).isLt
  rw [shapeCast_id]
  show FloatOps.truncf .bf16 bitsLt_bf16_f32 (arg10.view.read (Elt F) f _) = _
  rw [hT]
  unfold wt wu
  refine congrArg _ (at4_congr w ?_ ?_)
  · show (a + 16 * (x 0).val) % 8 * 128 + (0 + 1 * (x 1).val) = o + 1 * (x 1).val; omega
  · show (a + 16 * (x 0).val) / 8 = 2 * (0 + 1 * (x 0).val) + 1; omega

theorem mem_cols (o : ℕ) (h) (y : S1024x1024.Idx) :
    y ∈ (Rect.unit (s := S1024x1024) ![0, o] ![1024, 128] h).set ↔ o ≤ (y 1).val ∧ (y 1).val < o + 128 := by
  have h0 : (y 0).val < 1024 := (y 0).isLt
  rw [Rect.mem_set_unit]
  constructor
  · exact fun h => h 1
  · intro h b
    match b with
    | ⟨0, _⟩ => exact ⟨Nat.zero_le _, by show (y 0).val < 0 + 1024; omega⟩
    | ⟨1, _⟩ => exact h

/-! ## The conditions -/

/-- The number of blocks in use, and the experts of a point's block and of the one before. -/
abbrev nu (f1 : S1.Idx → BitVec 32) : ℤ := (f1 (ix1 0)).toInt
abbrev ex (f0 : S288.Idx → BitVec 32) (i : grid0.Coords) : BitVec 32 := f0 (ix1 (i 0))
abbrev exPrev (f0 : S288.Idx → BitVec 32) (i : grid0.Coords) : BitVec 32 :=
  f0 (ix1 ⟨(i 0).val - 1, by have h : (i 0).val < 288 := (i 0).isLt; omega⟩)

/-- A point's block is in use; its expert is not the one before's. -/
abbrev Live (f1 : S1.Idx → BitVec 32) (i : grid0.Coords) : Prop := ((i 0).val : ℤ) < nu f1
abbrev Fresh (f0 : S288.Idx → BitVec 32) (i : grid0.Coords) : Prop := (i 0).val = 0 ∨ ex f0 i ≠ exPrev f0 i

theorem toInt_i (i : grid0.Coords) : (BitVec.ofNat 32 (i 0).val).toInt = (i 0).val := by
  have h : (i 0).val < 288 := (i 0).isLt
  rw [BitVec.toInt_eq_toNat_of_lt (by rw [BitVec.toNat_ofNat]; omega), BitVec.toNat_ofNat]; omega

theorem slt_eq (i : grid0.Coords) (w : BitVec 32) : IntOp.cmpi .slt (BitVec.ofNat 32 (i 0).val) w = BitVec.ofBool (decide (((i 0).val : ℤ) < w.toInt)) := by
  rw [WordCmp.cmpi_slt_eq, toInt_i]

theorem word_iff (b : Bool) : Scalar.cmpi .ne (Scalar.extui (BitVec.ofBool b)) 0#32 = 1#1 ↔ b = true := by
  cases b <;> decide

theorem cond2_iff (i : grid0.Coords) (w : BitVec 32) : k0_cond2 i w = 1#1 ↔ ((i 0).val : ℤ) < w.toInt := by
  unfold k0_cond2
  refine (Eq.congr_left (congrArg (fun z => Scalar.cmpi .ne (Scalar.extui z) 0#32) (slt_eq i w))).trans ?_
  rw [word_iff, decide_eq_true_eq]

theorem cond3_iff (i : grid0.Coords) (w : BitVec 32) : k0_cond3 i w = 1#1 ↔ ¬ ((i 0).val : ℤ) < w.toInt := by
  unfold k0_cond3
  have e : IntOp.cmpi .sge (BitVec.ofNat 32 (i 0).val) w = BitVec.ofBool (decide (¬ ((i 0).val : ℤ) < w.toInt)) := by
    show BitVec.ofBool (decide (w.toInt ≤ (BitVec.ofNat 32 (i 0).val).toInt)) = _
    rw [toInt_i]; simp only [not_lt]
  refine (Eq.congr_left (congrArg (fun z => Scalar.cmpi .ne (Scalar.extui z) 0#32) e)).trans ?_
  rw [word_iff, decide_eq_true_eq]

theorem cond1_iff (i : grid0.Coords) (w a b : BitVec 32) :
    Scalar.cmpi .ne (Scalar.extui (Scalar.andi (Scalar.cmpi .slt (BitVec.ofNat 32 (i 0).val) w)
      (Scalar.ori (Scalar.cmpi .eq (BitVec.ofNat 32 (i 0).val) 0#32) (Scalar.cmpi .ne a b)))) 0#32 = 1#1
      ↔ ((i 0).val : ℤ) < w.toInt ∧ ((i 0).val = 0 ∨ a ≠ b) := by
  have h : (i 0).val < 288 := (i 0).isLt
  have e0 : Scalar.cmpi .eq (BitVec.ofNat 32 (i 0).val) 0#32 = BitVec.ofBool (decide ((i 0).val = 0)) := by
    show BitVec.ofBool (BitVec.ofNat 32 (i 0).val == 0#32) = _
    congr 1
    rw [beq_eq_decide, decide_eq_decide, ← BitVec.toNat_inj, BitVec.toNat_ofNat]
    show _ % _ = 0 ↔ _
    omega
  have e1 : Scalar.cmpi .ne a b = BitVec.ofBool (decide (a ≠ b)) := by
    show BitVec.ofBool (a != b) = _
    congr 1
    simp [bne, beq_eq_decide]
  have e2 : ∀ p q r : Bool, Scalar.andi (BitVec.ofBool p) (Scalar.ori (BitVec.ofBool q) (BitVec.ofBool r)) = BitVec.ofBool (p && (q || r)) := by decide
  rw [show Scalar.cmpi .slt (BitVec.ofNat 32 (i 0).val) w = _ from slt_eq i w, e0, e1, e2, word_iff]
  simp only [Bool.and_eq_true, Bool.or_eq_true, decide_eq_true_eq]

theorem ex_eq (f0 : S288.Idx → BitVec 32) (i : grid0.Coords) (h : ∀ a, (k0_off1 i) a + (![1] : Fin 1 → ℕ) a ≤ S288.size a) (hp) :
    View.readAt (Elt F) tbE.view (Rect.unit (s := S288) (k0_off1 i) ![1] h).toLoadRect f0 (Shape.Idx.first hp) = ex f0 i := by
  have h0 : (i 0).val < 288 := (i 0).isLt
  show f0 _ = f0 _
  refine congrArg f0 (funext fun a => Fin.ext ?_)
  match a with
  | ⟨0, _⟩ =>
    show (BitVec.ofNat 32 (i 0).val).toNat + 1 * 0 = (i 0).val
    rw [BitVec.toNat_ofNat]; omega

theorem exPrev_eq (f0 : S288.Idx → BitVec 32) (i : grid0.Coords) (h : ∀ a, (k0_off2 i) a + (![1] : Fin 1 → ℕ) a ≤ S288.size a) (hp) :
    View.readAt (Elt F) tbE.view (Rect.unit (s := S288) (k0_off2 i) ![1] h).toLoadRect f0 (Shape.Idx.first hp) = exPrev f0 i := by
  have h0 : (i 0).val < 288 := (i 0).isLt
  show f0 _ = f0 _
  refine congrArg f0 (funext fun a => Fin.ext ?_)
  match a with
  | ⟨0, _⟩ =>
    show (IntOp.maxsi (BitVec.ofNat 32 (i 0).val - 1#32) 0#32).toNat + 1 * 0 = (i 0).val - 1
    generalize (i 0).val = n at h0
    revert n
    decide +kernel

theorem nu_eq (f1 : S1.Idx → BitVec 32) (h : ∀ a, (![0] : Fin 1 → ℕ) a + (![1] : Fin 1 → ℕ) a ≤ S1.size a) (hp) :
    View.readAt (Elt F) tbN.view (Rect.unit (s := S1) ![0] ![1] h).toLoadRect f1 (Shape.Idx.first hp) = f1 (ix1 0) := by
  show f1 _ = f1 _
  refine congrArg f1 (funext fun a => Fin.ext ?_)
  match a with
  | ⟨0, _⟩ => rfl

/-- A point's block of the result. -/
def blk (x : Vec F S256x1024 .f32) (g : Vec F S1024x1024 .bf16) (bg : Vec F S1x1x1024 .f32) (u : Vec F S1024x1024 .bf16) (bu : Vec F S1x1x1024 .f32)
    (d : Vec F S1024x1024 .bf16) (bd : Vec F S1x1x1024 .f32) : Vec F S256x1024 .f32 :=
  k0_pay2 (k0_pay63 x g bg u bu) d (constant S256x1024 .f32 0x00000000#32) bd

set_option maxHeartbeats 8000000 in
/-- The body at a point. -/
theorem run_body (c : Dev nD) (i : grid0.Coords) (arg3 : Memref sig .tc .vmem S256x1024 .f32) (harg3 : arg3.IsWhole)
    (arg4 : Memref sig .tc .vmem S1x1x1024x2048 .f32) (harg4 : arg4.IsWhole) (arg5 : Memref sig .tc .vmem S1x1x1024 .f32) (harg5 : arg5.IsWhole)
    (arg6 : Memref sig .tc .vmem S1x1x1024 .f32) (harg6 : arg6.IsWhole) (arg7 : Memref sig .tc .vmem S1x1x1024x1024 .f32) (harg7 : arg7.IsWhole)
    (arg8 : Memref sig .tc .vmem S1x1x1024 .f32) (harg8 : arg8.IsWhole) (arg9 : Memref sig .tc .vmem S256x1024 .f32) (harg9 : arg9.IsWhole)
    (arg10 : Memref sig .tc .vmem S16384x128 .f32) (harg10 : arg10.IsWhole) (arg11 : Memref sig .tc .vmem S1024x1024 .bf16) (harg11 : arg11.IsWhole)
    (arg12 : Memref sig .tc .vmem S1024x1024 .bf16) (harg12 : arg12.IsWhole) (arg13 : Memref sig .tc .vmem S1024x1024 .bf16) (harg13 : arg13.IsWhole)
    (x3 : Vec F S256x1024 .f32) (x4 : Vec F S1x1x1024x2048 .f32) (x5 x6 : Vec F S1x1x1024 .f32) (x7 : Vec F S1x1x1024x1024 .f32)
    (x8 : Vec F S1x1x1024 .f32) (x11 x12 x13 : Vec F S1024x1024 .bf16) (f0 : S288.Idx → BitVec 32) (f1 : S1.Idx → BitVec 32)
    (E : Set ℕ) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ owns (c : Thread nD τ) arg11 fullShare x11 ∗ owns (c : Thread nD τ) arg12 fullShare x12 ∗ owns (c : Thread nD τ) arg13 fullShare x13
        ∗ tbPt c tbE f0 ∗ tbPt c tbN f1
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare (if Live f1 i then
                blk x3 (if Live f1 i ∧ Fresh f0 i then wg x4 else x11) x5 (if Live f1 i ∧ Fresh f0 i then wu x4 else x12) x6
                  (if Live f1 i ∧ Fresh f0 i then wd x7 else x13) x8 else k0_pay3)
            ∗ (∃ d, owns (c : Thread nD τ) arg10 fullShare d)
            ∗ owns (c : Thread nD τ) arg11 fullShare (if Live f1 i ∧ Fresh f0 i then wg x4 else x11)
            ∗ owns (c : Thread nD τ) arg12 fullShare (if Live f1 i ∧ Fresh f0 i then wu x4 else x12)
            ∗ owns (c : Thread nD τ) arg13 fullShare (if Live f1 i ∧ Fresh f0 i then wd x7 else x13)
            ∗ tbPt c tbE f0 ∗ tbPt c tbN f1) -∗ K ⟨⟩))
      ⊢ wp frame (wpE (defs₀ (F := F)) Variants.none c none) E
          (cc0_moe_experts i tbE (Memref.isWhole_whole _) tbN (Memref.isWhole_whole _) arg3 harg3 arg4 harg4 arg5 harg5 arg6 harg6 arg7 harg7 arg8 harg8 arg9 harg9 arg10 harg10 arg11 harg11 arg12 harg12 arg13 harg13) K := by
  simp only [cc0_moe_experts_eq_skeleton]; unfold cc0_moe_experts_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, HT0, HT1, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg11.eq_unread hf11; obtain rfl := harg12.eq_unread hf12; obtain rfl := harg13.eq_unread hf13
  sl_exec
  rw [wp_ret]
  imodintro
  have hT : arg10.view.read (Elt F) (arg10.view.writes (Elt F) f10 (run_body.sl.H10_32 c arg4 harg4 x4)) = wt x4 := by
    funext y
    refine View.read_writes_apply_of_pieces _ _ (wt x4) _ ?_ y ?_
    · unfold run_body.sl.H10_32 run_body.sl.H10_7
      simp only [List.forall_mem_cons]
      iterate 32 refine ⟨fun x => strip_at arg4 harg4 x4 _ _ _ (by decide) _ _ _ x rfl rfl, ?_⟩
      exact fun p hp => absurd hp List.not_mem_nil
    · unfold run_body.sl.H10_32 run_body.sl.H10_7
      obtain ⟨q, j, e⟩ := strip_of y
      simp (disch := decide) only [List.exists_mem_cons_iff, mem_strip, e, List.not_mem_nil, false_and, exists_false, or_false]
      clear e
      revert q j
      decide +kernel
  have hc : Scalar.cmpi .ne (Scalar.extui (Scalar.andi (Scalar.cmpi .slt (BitVec.ofNat 32 (i 0).val) (run_body.sl.r_1 (F := F) f1))
      (Scalar.ori (Scalar.cmpi .eq (BitVec.ofNat 32 (i 0).val) 0#32) (Scalar.cmpi .ne (run_body.sl.r (F := F) i f0) (run_body.sl.r_2 (F := F) i f0))))) 0#32 = 1#1
      ↔ Live f1 i ∧ Fresh f0 i := by
    rw [cond1_iff]
    unfold run_body.sl.r run_body.sl.r_1 run_body.sl.r_2
    rw [ex_eq, exPrev_eq, nu_eq]
  have hc2 : k0_cond2 i (run_body.sl.r_1 (F := F) f1) = 1#1 ↔ Live f1 i := by
    rw [cond2_iff]; unfold run_body.sl.r_1; rw [nu_eq]
  have hc3 : k0_cond3 i (run_body.sl.r_1 (F := F) f1) = 1#1 ↔ ¬ Live f1 i := by
    rw [cond3_iff]; unfold run_body.sl.r_1; rw [nu_eq]
  have h11 : run_body.sl.v24 (F := F) c i arg4 harg4 arg10 arg11 harg11 x4 x11 f0 f1 f10 = if Live f1 i ∧ Fresh f0 i then wg x4 else x11 := by
    unfold run_body.sl.v24
    refine (View.ld_unit_zero (by funext a; fin_cases a <;> rfl) inb_S1024x1024_S1024x1024_0_0 _).trans ?_
    by_cases hl : Live f1 i ∧ Fresh f0 i
    · rw [dif_pos (hc.2 hl), if_pos hl]
      funext y
      refine View.read_writes_apply_of_pieces _ _ (wg x4) _ ?_ y ?_
      · unfold run_body.sl.v162 run_body.sl.v172 run_body.sl.r_9 run_body.sl.v192 run_body.sl.v202 run_body.sl.r_10 run_body.sl.v222 run_body.sl.v232
        simp only [List.forall_mem_cons]
        iterate 8 refine ⟨fun x => even_at arg10 _ x4 hT _ _ _ _ x (by decide) rfl, ?_⟩
        exact fun p hp => absurd hp List.not_mem_nil
      · have hy : (y 1).val < 1024 := (y 1).isLt
        simp only [List.exists_mem_cons_iff, mem_cols, List.not_mem_nil, false_and, exists_false, or_false]
        omega
    · rw [dif_neg (fun h => hl (hc.1 h)), if_neg hl, harg11.read_unread]
  have h12 : run_body.sl.v30 (F := F) c i arg4 harg4 arg10 arg12 harg12 x4 x12 f0 f1 f10 = if Live f1 i ∧ Fresh f0 i then wu x4 else x12 := by
    unfold run_body.sl.v30
    refine (View.ld_unit_zero (by funext a; fin_cases a <;> rfl) inb_S1024x1024_S1024x1024_0_0 _).trans ?_
    by_cases hl : Live f1 i ∧ Fresh f0 i
    · rw [dif_pos (hc.2 hl), if_pos hl]
      funext y
      refine View.read_writes_apply_of_pieces _ _ (wu x4) _ ?_ y ?_
      · unfold run_body.sl.v167 run_body.sl.v177 run_body.sl.v187 run_body.sl.v197 run_body.sl.v207 run_body.sl.v217 run_body.sl.v227 run_body.sl.v237
        simp only [List.forall_mem_cons]
        iterate 8 refine ⟨fun x => odd_at arg10 _ x4 hT _ _ _ _ x (by decide) rfl, ?_⟩
        exact fun p hp => absurd hp List.not_mem_nil
      · have hy : (y 1).val < 1024 := (y 1).isLt
        simp only [List.exists_mem_cons_iff, mem_cols, List.not_mem_nil, false_and, exists_false, or_false]
        omega
    · rw [dif_neg (fun h => hl (hc.1 h)), if_neg hl, harg12.read_unread]
  have h13 : run_body.sl.v56 (F := F) c i arg7 harg7 arg13 harg13 x7 x13 f0 f1 = if Live f1 i ∧ Fresh f0 i then wd x7 else x13 := by
    unfold run_body.sl.v56
    refine (View.ld_unit_zero (by funext a; fin_cases a <;> rfl) inb_S1024x1024_S1024x1024_0_0 _).trans ?_
    by_cases hl : Live f1 i ∧ Fresh f0 i
    · rw [dif_pos (hc.2 hl), if_pos hl]
      refine (View.read_writes_full _ _ _ _ _).trans ?_
      unfold run_body.sl.r_11 wd
      rw [View.readAt_eq_ld, harg7.read_unread]
      exact congrArg (fun z => k0_pay1 (k0_pay62 z)) (View.ld_unit_zero (by funext a; fin_cases a <;> rfl) _ _)
    · rw [dif_neg (fun h => hl (hc.1 h)), if_neg hl, harg13.read_unread]
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    by_cases hl : Live f1 i
    · rw [dif_neg (fun h => hc3.1 h hl), dif_pos (hc2.2 hl), if_pos hl]
      refine (View.read_writes_full _ _ _ _ _).trans ?_
      unfold run_body.sl.r_12 run_body.sl.cst_29 blk
      have hz2 : (![0, 0] : Fin 2 → ℕ) = fun _ => 0 := by funext a; fin_cases a <;> rfl
      have hz3 : (![0, 0, 0] : Fin 3 → ℕ) = fun _ => 0 := by funext a; fin_cases a <;> rfl
      have e3 := (View.ld_unit_zero hz2 inb_S256x1024_S256x1024_0_0 (arg3.view.read (Elt F) (harg3.unread x3))).trans hf3
      have e5 := (View.ld_unit_zero hz3 inb_S1x1x1024_S1x1x1024_0_0_0 (arg5.view.read (Elt F) (harg5.unread x5))).trans hf5
      have e6 := (View.ld_unit_zero hz3 inb_S1x1x1024_S1x1x1024_0_0_0 (arg6.view.read (Elt F) (harg6.unread x6))).trans hf6
      have e8 := (View.ld_unit_zero hz3 inb_S1x1x1024_S1x1x1024_0_0_0 (arg8.view.read (Elt F) (harg8.unread x8))).trans hf8
      rw [h11, h12, h13]
      exact congrArg₂ (k0_pay2 · _ _ ·) (congr (congrArg₂ (k0_pay63 · _ · _) e3 e5) e6) e8
    · rw [dif_pos (hc3.2 hl), if_neg hl]
      exact View.read_writes_full _ _ _ _ _
  isplitl [H10]
  · iexists _, _; isplitr; swap; · iexact H10
    ipureintro; rfl
  isplitl [H11]
  · iexists _; isplitr; swap; · iexact H11
    ipureintro
    exact (View.ld_unit_zero (by funext a; fin_cases a <;> rfl) inb_S1024x1024_S1024x1024_0_0 _).symm.trans h11
  isplitl [H12]
  · iexists _; isplitr; swap; · iexact H12
    ipureintro
    exact (View.ld_unit_zero (by funext a; fin_cases a <;> rfl) inb_S1024x1024_S1024x1024_0_0 _).symm.trans h12
  isplitl [H13]
  · iexists _; isplitr; swap; · iexact H13
    ipureintro
    exact (View.ld_unit_zero (by funext a; fin_cases a <;> rfl) inb_S1024x1024_S1024x1024_0_0 _).symm.trans h13
  isplitl [HT0]
  · iexact HT0
  · iexact HT1

end Cert.Kernel4Ideal.Moe

end
-- ==== Proof.MoeHost.lean ====
/- The experts' call up to its region: the host's tables and bias rows as terms of the arguments, and the side condition of
   the tables (no tile's expert is above 31). -/
module

public import proofs.«01_k».proof.Proof.MoeRun
public import proofs.«01_k».proof.Proof.Gen.Reference4Ideal.Read
public import Idealize.ShloMosaic.Lib.Claim

@[expose] public section

set_option maxRecDepth 16384

noncomputable section

namespace Cert.Kernel4Ideal.Moe

open Cert.Kernel4Ideal Cert.Kernel4Ideal.Gen Idealize.ShloMosaic Idealize.ShloMosaic.TcCoe Idealize.ShloMosaic.StableHlo
open Idealize.SL Idealize.SL.RA Idealize.SL.BI Idealize.SL.ProofMode
open scoped Idealize.SL.BI
open Idealize.SL.BI.BIBase Idealize.SL.Sem

variable {F : FTy → Type} [FloatOps F]
variable (m : (ℓ : Loc nD τ sig) → Buf (Elt F) ℓ)

/-- The host's operations before the region, stretch by stretch. -/
abbrev opss : List (List (HloOp τ sig (Elt F))) := [hostOps0, hostOps0_1, hostOps0_2, hostOps0_3, hostOps0_4, hostOps0_5, hostOps0_6]

/-- What the buffers hold when the region is entered. -/
def V (c : Dev nD) (b : Ref sig .tc) : Buf (Elt F) ((c : Thread nD τ).loc b) := StableHlo.after (opss (F := F)).flatten (fun b => m (c, b)) b

theorem opss_fresh : (opss (F := F)).Forall fun ops => ops.Forall fun op => op.fresh = ∅ := by
  simp only [List.Forall]
  repeat' constructor

set_option maxHeartbeats 4000000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss
    ⟨hostOps0_sub, hostOps0_1_sub, hostOps0_2_sub, hostOps0_3_sub, hostOps0_4_sub, hostOps0_5_sub, hostOps0_6_sub⟩ opss_fresh main_chain

set_option maxHeartbeats 4000000 in
theorem V_args (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5) := by
  unfold V
  simp only [opss, List.flatten_cons, List.flatten_nil, List.append_nil, List.cons_append, List.nil_append, hostOps0, hostOps0_1, hostOps0_2, hostOps0_3, hostOps0_4, hostOps0_5,
    hostOps0_6, TRef.binary, TRef.nullary, TRef.ternary, TRef.unary, TRef.toBuf, TRef.ofBuf, cast_eq]
  refine ⟨?_, ?_, ?_, ?_, ?_, ?_⟩ <;> (after_results_simp <;> rfl)

/-- The group sizes. -/
abbrev gs (c : Dev nD) : (⟨S32, .i32⟩ : BufTy).Contents (Elt F) := m ((c.tc : Thread nD τ).loc main_arg1)

set_option maxHeartbeats 8000000 in
theorem V_be (c : Dev nD) : (V m c main_v19 : (⟨S288, .i32⟩ : BufTy).Contents (Elt F)) = Cert.Reference4Ideal.Read.val_main_v19 (F := F) (gs m c) := by
  unfold V
  simp only [opss, List.flatten_cons, List.flatten_nil, List.append_nil, List.cons_append, List.nil_append, hostOps0, hostOps0_1, hostOps0_2, hostOps0_3, hostOps0_4, hostOps0_5,
    hostOps0_6, TRef.binary, TRef.nullary, TRef.ternary, TRef.unary, TRef.toBuf, TRef.ofBuf, cast_eq]
  after_results_simp
  rfl

set_option maxHeartbeats 8000000 in
theorem V_nu (c : Dev nD) : (V m c main_v21 : (⟨S1, .i32⟩ : BufTy).Contents (Elt F)) = Cert.Reference4Ideal.Read.val_main_v79 (F := F) (gs m c) := by
  unfold V
  simp only [opss, List.flatten_cons, List.flatten_nil, List.append_nil, List.cons_append, List.nil_append, hostOps0, hostOps0_1, hostOps0_2, hostOps0_3, hostOps0_4, hostOps0_5,
    hostOps0_6, TRef.binary, TRef.nullary, TRef.ternary, TRef.unary, TRef.toBuf, TRef.ofBuf, cast_eq]
  after_results_simp
  rfl

set_option maxHeartbeats 8000000 in
theorem V_rows (c : Dev nD) :
    (V m c main_v23 : Vec F S32x1x1024 .f32) = broadcastInDim S32x1x1024 ![0, 2] bcast_S32x1024_S32x1x1024_0_2
        (Host.slice S32x1024 ![0, 0] ![1, 2] (m ((c.tc : Thread nD τ).loc main_arg3) : Vec F S32x2048 .f32) slicesBy_S32x2048_S32x1024_0s1_0s2)
    ∧ (V m c main_v25 : Vec F S32x1x1024 .f32) = broadcastInDim S32x1x1024 ![0, 2] bcast_S32x1024_S32x1x1024_0_2
        (Host.slice S32x1024 ![0, 1] ![1, 2] (m ((c.tc : Thread nD τ).loc main_arg3) : Vec F S32x2048 .f32) slicesBy_S32x2048_S32x1024_0s1_1s2)
    ∧ (V m c main_v26 : Vec F S32x1x1024 .f32) = broadcastInDim S32x1x1024 ![0, 2] bcast_S32x1024_S32x1x1024_0_2
        (m ((c.tc : Thread nD τ).loc main_arg5) : Vec F S32x1024 .f32) := by
  unfold V
  simp only [opss, List.flatten_cons, List.flatten_nil, List.append_nil, List.cons_append, List.nil_append, hostOps0, hostOps0_1, hostOps0_2, hostOps0_3, hostOps0_4, hostOps0_5,
    hostOps0_6, TRef.binary, TRef.nullary, TRef.ternary, TRef.unary, TRef.toBuf, TRef.ofBuf, cast_eq]
  refine ⟨?_, ?_, ?_⟩ <;> (after_results_simp <;> rfl)

/-! ## The tables -/

/-- Words of at most one, added up. -/
theorem foldl_le {ι : Type} (g : ι → BitVec 32) (hg : ∀ n, (g n).toNat ≤ 1) : ∀ (l : List ι) (r : BitVec 32),
    (l.foldl (fun r n => IntOp.addi r (g n)) r).toNat ≤ r.toNat + l.length
  | [], r => le_rfl
  | n :: l, r => by
    refine (foldl_le g hg l _).trans ?_
    have h : (IntOp.addi r (g n)).toNat ≤ r.toNat + (g n).toNat := by
      show (r + g n).toNat ≤ _
      rw [BitVec.toNat_add]; exact Nat.mod_le _ _
    have h1 := hg n
    rw [List.length_cons]
    show (IntOp.addi r (g n)).toNat + l.length ≤ _
    omega

theorem reduce_le (x : S288x32.Idx → BitVec 32) (z : S_.Idx → BitVec 32) (hx : ∀ k, (x k).toNat ≤ 1) (hz : ∀ k, (z k).toNat = 0) (i : S288.Idx) :
    (Host.reduce IntOp.addi x z Cert.Reference4Ideal.Facts₀.reducesTo_S288x32_S288_d1 Cert.Reference4Ideal.Facts₀.h_S_ i).toNat ≤ 9216 := by
  unfold Host.reduce
  refine (foldl_le (fun n => x (S288x32.rowMajor.symm n)) (fun n => hx _) _ _).trans ?_
  rw [hz, Nat.zero_add]
  refine (List.length_filter_le _ _).trans ?_
  rw [List.length_finRange]
  decide +kernel

theorem be_le (x1 : (⟨S32, .i32⟩ : BufTy).Contents (Elt F)) (i : S288.Idx) :
    (Cert.Reference4Ideal.Read.val_main_v19 (F := F) x1 i : BitVec 32).toNat ≤ 31 := by
  have h17 : (Cert.Reference4Ideal.Read.val_main_v17 (F := F) x1 i : BitVec 32).toNat ≤ 9216 := by
    refine reduce_le _ _ (fun k => ?_) (fun k => rfl) i
    rw [Cert.Reference4Ideal.Read.val_main_v16_apply]
    exact (by decide : ∀ w : BitVec 1, (BitVec.setWidth 32 w).toNat ≤ 1) _
  rw [Cert.Reference4Ideal.Read.val_main_v19_apply, Cert.Reference4Ideal.Read.val_main_v18_apply, Cert.Reference4Ideal.Read.val_main_c_5_apply]
  revert h17
  generalize (Cert.Reference4Ideal.Read.val_main_v17 (F := F) x1 i : BitVec 32) = w
  intro h17
  show (if w.slt 31#32 then w else 31#32).toNat ≤ 31
  split
  · rename_i h
    rw [BitVec.slt_iff_toInt_lt, BitVec.toInt_eq_toNat_of_lt (by omega)] at h
    have : (31#32 : BitVec 32).toInt = 31 := by decide
    omega
  · decide

/-- The tables when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables: each block's expert, and how many blocks are in use. -/
abbrev be : S288.Idx → BitVec 32 := tbl m 0
abbrev nus : S1.Idx → BitVec 32 := tbl m 1

theorem be_eq : be m = Cert.Reference4Ideal.Read.val_main_v19 (F := F) (gs m 0) := V_be m 0
theorem nus_eq : nus m = Cert.Reference4Ideal.Read.val_main_v79 (F := F) (gs m 0) := V_nu m 0

theorem be_lt (i : S288.Idx) : (be m i).toNat < 32 := by
  rw [be_eq]; exact Nat.lt_succ_of_le (be_le _ i)

theorem be_lt' (i : grid0.Coords) : (ex (be m) i).toNat < 32 := be_lt m _

/-- A point's expert. -/
def eOf (i : grid0.Coords) : Fin 32 := ⟨(ex (be m) i).toNat, be_lt m _⟩

theorem at_eq (pf : pre0.Contents (Elt F)) (i : grid0.Coords) (h : ∀ a, (k0_off1 i) a + S1.size a ≤ S288.size a) (h1 : S1.numel = 1) :
    pf.at 0 (Rect.unit (s := S288) ![(Scalar.indexCast (BitVec.ofNat 32 (i 0).val) : Index).toNat] S1.size h) h1 = ex (pf 0 : S288.Idx → BitVec 32) i := by
  have h0 : (i 0).val < 288 := (i 0).isLt
  show (pf 0 : S288.Idx → BitVec 32) _ = _
  refine congrArg (pf 0 : S288.Idx → BitVec 32) (funext fun a => Fin.ext ?_)
  match a with
  | ⟨0, _⟩ =>
    show (BitVec.ofNat 32 (i 0).val).toNat + 1 * 0 = (i 0).val
    rw [BitVec.toNat_ofNat]; omega

set_option maxHeartbeats 4000000 in
/-- The windows' blocks are inside their arrays. -/
theorem ok : ok0 (F := F) (tbl m) := by
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩⟩
  · unfold cc0_transform_1
    rw [at_eq (tbl m) i]
    have := be_lt' m i
    match a with
    | ⟨0, _⟩ => show (0 + 1) * 1 ≤ 2; omega
    | ⟨1, _⟩ => show ((ex (be m) i).toNat + 1) * 1 ≤ 32; omega
    | ⟨2, _⟩ => show (0 + 1) * 1024 ≤ 1024; omega
    | ⟨3, _⟩ => show (0 + 1) * 2048 ≤ 2048; omega
  · unfold cc0_transform_2
    rw [at_eq (tbl m) i]
    have := be_lt' m i
    match a with
    | ⟨0, _⟩ => show ((ex (be m) i).toNat + 1) * 1 ≤ 32; omega
    | ⟨1, _⟩ => show (0 + 1) * 1 ≤ 1; omega
    | ⟨2, _⟩ => show (0 + 1) * 1024 ≤ 1024; omega
  · unfold cc0_transform_3
    rw [at_eq (tbl m) i]
    have := be_lt' m i
    match a with
    | ⟨0, _⟩ => show ((ex (be m) i).toNat + 1) * 1 ≤ 32; omega
    | ⟨1, _⟩ => show (0 + 1) * 1 ≤ 1; omega
    | ⟨2, _⟩ => show (0 + 1) * 1024 ≤ 1024; omega
  · unfold cc0_transform_4
    rw [at_eq (tbl m) i]
    have := be_lt' m i
    match a with
    | ⟨0, _⟩ => show (0 + 1) * 1 ≤ 2; omega
    | ⟨1, _⟩ => show ((ex (be m) i).toNat + 1) * 1 ≤ 32; omega
    | ⟨2, _⟩ => show (0 + 1) * 1024 ≤ 1024; omega
    | ⟨3, _⟩ => show (0 + 1) * 1024 ≤ 1024; omega
  · unfold cc0_transform_5
    rw [at_eq (tbl m) i]
    have := be_lt' m i
    match a with
    | ⟨0, _⟩ => show ((ex (be m) i).toNat + 1) * 1 ≤ 32; omega
    | ⟨1, _⟩ => show (0 + 1) * 1 ≤ 1; omega
    | ⟨2, _⟩ => show (0 + 1) * 1024 ≤ 1024; omega

end Cert.Kernel4Ideal.Moe
-- ==== Proof.MoeFrame.lean ====
/- The experts' call's frame: the proof data, with what the scratch buffers hold carried from point to point, and the run. -/
module

public import proofs.«01_k».proof.Proof.MoeHost
public import Idealize.ShloMosaic.Lib.Claim

@[expose] public section

set_option maxRecDepth 16384

noncomputable section

namespace Cert.Kernel4Ideal.Moe

open Cert.Kernel4Ideal Cert.Kernel4Ideal.Gen Idealize.ShloMosaic Idealize.ShloMosaic.TcCoe Idealize.ShloMosaic.StableHlo
open Idealize.SL Idealize.SL.RA Idealize.SL.BI Idealize.SL.ProofMode
open scoped Idealize.SL.BI
open Idealize.SL.BI.BIBase Idealize.SL.BI.Laws Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (pcfg0 (F := F)).Adm := ⟨tbl m, ok m⟩
abbrev cfgM : Cfg sig Λ₀ := cfg0 (adm m)

attribute [local irreducible] V

theorem coords_val (t : Fin grid0.N) : (grid0.coords t 0).val = t.val := by
  have h : t.val < 288 := N_0 ▸ t.isLt
  rw [Pipeline.Grid.coords_val t 0 (S := 1) (B := 288) (by decide) rfl]
  omega

/-! ## The windows' blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev b0 (c : Dev nD) (t : Fin grid0.N) : Vec F S256x1024 .f32 := iblk m c 0 t
abbrev b1 (c : Dev nD) (t : Fin grid0.N) : Vec F S1x1x1024x2048 .f32 := iblk m c 1 t
abbrev b2 (c : Dev nD) (t : Fin grid0.N) : Vec F S1x1x1024 .f32 := iblk m c 2 t
abbrev b3 (c : Dev nD) (t : Fin grid0.N) : Vec F S1x1x1024 .f32 := iblk m c 3 t
abbrev b4 (c : Dev nD) (t : Fin grid0.N) : Vec F S1x1x1024x1024 .f32 := iblk m c 4 t
abbrev b5 (c : Dev nD) (t : Fin grid0.N) : Vec F S1x1x1024 .f32 := iblk m c 5 t

theorem tr1 (pf : pre0.Contents (Elt F)) (i : grid0.Coords) :
    cc0_transform_1 k0_off1_inb numel1_S1 pf i = ![0, (ex (pf 0 : S288.Idx → BitVec 32) i).toNat, 0, 0] :=
  congrArg (fun w : BitVec 32 => (![0, w.toNat, 0, 0] : Fin 4 → ℕ)) (at_eq pf i (k0_off1_inb i) numel1_S1)

theorem tr4 (pf : pre0.Contents (Elt F)) (i : grid0.Coords) :
    cc0_transform_4 k0_off1_inb numel1_S1 pf i = ![0, (ex (pf 0 : S288.Idx → BitVec 32) i).toNat, 0, 0] :=
  congrArg (fun w : BitVec 32 => (![0, w.toNat, 0, 0] : Fin 4 → ℕ)) (at_eq pf i (k0_off1_inb i) numel1_S1)

/-- Two points, one after the other, of one expert. -/
theorem ex_prev (f0 : S288.Idx → BitVec 32) (i i' : grid0.Coords) (h : (i' 0).val = (i 0).val - 1) (hx : ex f0 i = exPrev f0 i) : ex f0 i' = ex f0 i := by
  rw [hx]
  exact congrArg (fun j => f0 (ix1 j)) (Fin.ext h)

set_option maxHeartbeats 2000000 in
/-- The weights' blocks are the point's expert's. -/
theorem b1_at (c : Dev nD) (t : Fin grid0.N) (y : S1x1x1024x2048.Idx) :
    b1 m c t y = (V m c main_arg2 : Vec F S2x32x1024x2048 .f32) (ix4 0 (eOf m (grid0.coords t)) (y 2) (y 3)) := by
  refine congrArg (V m c main_arg2 : Vec F S2x32x1024x2048 .f32) (funext fun a => Fin.ext ?_)
  refine (((cfgM m).win 1).rect_emb_val t y a).trans ?_
  have e : ((cfgM m).win 1).index t = ![0, (eOf m (grid0.coords t)).val, 0, 0] := tr1 (tbl m) (grid0.coords t)
  have h0 : (y 0).val < 1 := (y 0).isLt
  have h1 : (y 1).val < 1 := (y 1).isLt
  rw [e]
  match a with
  | ⟨0, _⟩ => show 0 * 1 + (y 0).val = 0; omega
  | ⟨1, _⟩ => show (eOf m (grid0.coords t)).val * 1 + (y 1).val = (eOf m (grid0.coords t)).val; omega
  | ⟨2, _⟩ => show 0 * 1024 + (y 2).val = (y 2).val; omega
  | ⟨3, _⟩ => show 0 * 2048 + (y 3).val = (y 3).val; omega

set_option maxHeartbeats 2000000 in
theorem b4_at (c : Dev nD) (t : Fin grid0.N) (y : S1x1x1024x1024.Idx) :
    b4 m c t y = (V m c main_arg4 : Vec F S2x32x1024x1024 .f32) (ix4 0 (eOf m (grid0.coords t)) (y 2) (y 3)) := by
  refine congrArg (V m c main_arg4 : Vec F S2x32x1024x1024 .f32) (funext fun a => Fin.ext ?_)
  refine (((cfgM m).win 4).rect_emb_val t y a).trans ?_
  have e : ((cfgM m).win 4).index t = ![0, (eOf m (grid0.coords t)).val, 0, 0] := tr4 (tbl m) (grid0.coords t)
  have h0 : (y 0).val < 1 := (y 0).isLt
  have h1 : (y 1).val < 1 := (y 1).isLt
  rw [e]
  match a with
  | ⟨0, _⟩ => show 0 * 1 + (y 0).val = 0; omega
  | ⟨1, _⟩ => show (eOf m (grid0.coords t)).val * 1 + (y 1).val = (eOf m (grid0.coords t)).val; omega
  | ⟨2, _⟩ => show 0 * 1024 + (y 2).val = (y 2).val; omega
  | ⟨3, _⟩ => show 0 * 1024 + (y 3).val = (y 3).val; omega

/-- What a point leaves in the result's block. -/
def out (c : Dev nD) (t : Fin grid0.N) : Vec F S256x1024 .f32 :=
  if Live (nus m) (grid0.coords t) then blk (b0 m c t) (wg (b1 m c t)) (b2 m c t) (wu (b1 m c t)) (b3 m c t) (wd (b4 m c t)) (b5 m c t) else k0_pay3

/-- What the scratch buffers hold before point `n`: after a point in use, its expert's weights. -/
def Held (c : Dev nD) (n : ℕ) (x11 x12 x13 : Vec F S1024x1024 .bf16) : Prop :=
  ∀ s : Fin grid0.N, s.val + 1 = n → Live (nus m) (grid0.coords s) → x11 = wg (b1 m c s) ∧ x12 = wu (b1 m c s) ∧ x13 = wd (b4 m c s)

/-- A point in use finds or makes its expert's weights in the scratch buffers. -/
theorem held_live (c : Dev nD) (t : Fin grid0.N) {x11 x12 x13 : Vec F S1024x1024 .bf16} (h : Held m c t.val x11 x12 x13) (hl : Live (nus m) (grid0.coords t)) :
    (if Live (nus m) (grid0.coords t) ∧ Fresh (be m) (grid0.coords t) then wg (b1 m c t) else x11) = wg (b1 m c t)
    ∧ (if Live (nus m) (grid0.coords t) ∧ Fresh (be m) (grid0.coords t) then wu (b1 m c t) else x12) = wu (b1 m c t)
    ∧ (if Live (nus m) (grid0.coords t) ∧ Fresh (be m) (grid0.coords t) then wd (b4 m c t) else x13) = wd (b4 m c t) := by
  by_cases hf : Fresh (be m) (grid0.coords t)
  · exact ⟨if_pos ⟨hl, hf⟩, if_pos ⟨hl, hf⟩, if_pos ⟨hl, hf⟩⟩
  rw [if_neg fun hh => hf hh.2, if_neg fun hh => hf hh.2, if_neg fun hh => hf hh.2]
  have hv := coords_val t
  have h0 : t.val ≠ 0 := fun e => hf (.inl (hv.trans e))
  have hx : ex (be m) (grid0.coords t) = exPrev (be m) (grid0.coords t) := not_not.mp fun e => hf (.inr e)
  obtain ⟨s, hs⟩ : ∃ s : Fin grid0.N, s.val + 1 = t.val := ⟨⟨t.val - 1, lt_of_le_of_lt (Nat.sub_le _ _) t.isLt⟩, Nat.succ_pred_eq_of_ne_zero h0⟩
  have hsv := coords_val s
  have hls : Live (nus m) (grid0.coords s) := by
    show ((grid0.coords s 0).val : ℤ) < nu (nus m)
    have hl' : ((grid0.coords t 0).val : ℤ) < nu (nus m) := hl
    rw [hv, ← hs] at hl'
    rw [hsv]
    generalize nu (nus m) = z at hl' ⊢
    generalize s.val = k at hl' ⊢
    omega
  have he : eOf m (grid0.coords s) = eOf m (grid0.coords t) := by
    have h := ex_prev (be m) (grid0.coords t) (grid0.coords s) (by rw [hsv, hv, ← hs]; exact (Nat.add_sub_cancel _ 1).symm) hx
    refine Fin.ext ?_
    show (ex (be m) (grid0.coords s)).toNat = (ex (be m) (grid0.coords t)).toNat
    rw [h]
  have e1 : b1 m c s = b1 m c t := funext fun y => by rw [b1_at, b1_at, he]
  have e4 : b4 m c s = b4 m c t := funext fun y => by rw [b4_at, b4_at, he]
  have := h s hs hls
  rw [e1, e4] at this
  exact this

theorem held_succ (c : Dev nD) (t : Fin grid0.N) {x11 x12 x13 : Vec F S1024x1024 .bf16} (h : Held m c t.val x11 x12 x13) :
    Held m c (t.val + 1) (if Live (nus m) (grid0.coords t) ∧ Fresh (be m) (grid0.coords t) then wg (b1 m c t) else x11)
      (if Live (nus m) (grid0.coords t) ∧ Fresh (be m) (grid0.coords t) then wu (b1 m c t) else x12)
      (if Live (nus m) (grid0.coords t) ∧ Fresh (be m) (grid0.coords t) then wd (b4 m c t) else x13) := by
  intro s hs hl
  obtain rfl : s = t := Fin.ext (Nat.succ.inj hs)
  exact held_live m c s h hl

theorem out_eq (c : Dev nD) (t : Fin grid0.N) {x11 x12 x13 : Vec F S1024x1024 .bf16} (h : Held m c t.val x11 x12 x13) :
    (if Live (nus m) (grid0.coords t) then
      blk (b0 m c t) (if Live (nus m) (grid0.coords t) ∧ Fresh (be m) (grid0.coords t) then wg (b1 m c t) else x11) (b2 m c t)
        (if Live (nus m) (grid0.coords t) ∧ Fresh (be m) (grid0.coords t) then wu (b1 m c t) else x12) (b3 m c t)
        (if Live (nus m) (grid0.coords t) ∧ Fresh (be m) (grid0.coords t) then wd (b4 m c t) else x13) (b5 m c t)
      else k0_pay3) = out m c t := by
  unfold out
  by_cases hl : Live (nus m) (grid0.coords t)
  · rw [if_pos hl, if_pos hl, (held_live m c t h hl).1, (held_live m c t h hl).2.1, (held_live m c t h hl).2.2]
  · rw [if_neg hl, if_neg hl]

/-- The invariant before point `n`. -/
def Phi (c : Dev nD) (n : ℕ) : sProp 𝕄 :=
  iprop((∃ x10, owns (c : Thread nD τ) (Memref.whole cc0_scratch0) fullShare x10)
    ∗ (∃ x11 x12 x13, ⌜Held m c n x11 x12 x13⌝ ∗ owns (c : Thread nD τ) (Memref.whole cc0_scratch1) fullShare x11
        ∗ owns (c : Thread nD τ) (Memref.whole cc0_scratch2) fullShare x12 ∗ owns (c : Thread nD τ) (Memref.whole cc0_scratch3) fullShare x13)
    ∗ (∃ r, prngReg c r) ∗ tbPt c tbE (be m) ∗ tbPt c tbN (nus m))

/-- The proof data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out m c t
  Φ t := Phi m c t.val
  q _ := fullShare
  owed _ := 0

theorem A_eq (c : Dev nD) (w : Fin (cfgM m).W) : (dats m 0 c).A w = V m c (Pipeline.arrRef spec0 w) := by
  dsimp only [dats]

theorem after0_6 (c : Dev nD) (t : Fin (cfgM m).N) : (dats m 0 c).after 6 t = out m c t := by dsimp only [dats]; try rfl

theorem after0_in (c : Dev nD) (t : Fin (cfgM m).N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t
    ∧ (dats m 0 c).after 5 t = iblk m c 5 t := by
  refine ⟨?_, ?_, ?_, ?_, ?_, ?_⟩ <;> (dsimp only [dats]; try rfl)

/-- An input's staging buffer holds its block at every point. -/
theorem before0 (c : Dev nD) (t : Fin (cfgM m).N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t) ∧ (∀ d, (dats m 0 c).before 4 t d = iblk m c 4 t)
    ∧ (∀ d, (dats m 0 c).before 5 t d = iblk m c 5 t) := by
  refine ⟨fun d => ?_, fun d => ?_, fun d => ?_, fun d => ?_, fun d => ?_, fun d => ?_⟩
  all_goals
    refine ((dats m 0 c).before_in_eq_fetched _ rfl (fun _ => rfl) (fun _ _ _ => rfl) (fun t => ?_) t d).trans ?_
    · first
        | rw [(after0_in m c t).1] | rw [(after0_in m c t).2.1] | rw [(after0_in m c t).2.2.1] | rw [(after0_in m c t).2.2.2.1]
        | rw [(after0_in m c t).2.2.2.2.1] | rw [(after0_in m c t).2.2.2.2.2]
      unfold Dat.blockOf iblk; rw [A_eq]; try rfl
    · unfold Dat.fetched Dat.blockOf iblk; rw [A_eq]; try rfl

/-! ## The body at a point -/

abbrev ms0 (t : Fin (cfgM m).N) : Memref sig .tc .vmem S256x1024 .f32 := spec0_0.stage ((cfgM m).slots t 0)
abbrev ms1 (t : Fin (cfgM m).N) : Memref sig .tc .vmem S1x1x1024x2048 .f32 := spec0_1.stage ((cfgM m).slots t 1)
abbrev ms2 (t : Fin (cfgM m).N) : Memref sig .tc .vmem S1x1x1024 .f32 := spec0_2.stage ((cfgM m).slots t 2)
abbrev ms3 (t : Fin (cfgM m).N) : Memref sig .tc .vmem S1x1x1024 .f32 := spec0_3.stage ((cfgM m).slots t 3)
abbrev ms4 (t : Fin (cfgM m).N) : Memref sig .tc .vmem S1x1x1024x1024 .f32 := spec0_4.stage ((cfgM m).slots t 4)
abbrev ms5 (t : Fin (cfgM m).N) : Memref sig .tc .vmem S1x1x1024 .f32 := spec0_5.stage ((cfgM m).slots t 5)
abbrev ms6 (t : Fin (cfgM m).N) : Memref sig .tc .vmem S256x1024 .f32 := spec0_6.stage ((cfgM m).slots t 6)

abbrev bodyAt (t : Fin (cfgM m).N) : Prog (TpuEff nD τ sig (Elt F) Λ₀ .tc) PUnit :=
  cc0_moe_experts (grid0.coords t) tbE (Memref.isWhole_whole _) tbN (Memref.isWhole_whole _) (ms0 m t) (hstage0_0 (((cfgM m).slots t 0).cast nbuf0_0))
    (ms1 m t) (hstage0_1 (((cfgM m).slots t 1).cast nbuf0_1)) (ms2 m t) (hstage0_2 (((cfgM m).slots t 2).cast nbuf0_2))
    (ms3 m t) (hstage0_3 (((cfgM m).slots t 3).cast nbuf0_3)) (ms4 m t) (hstage0_4 (((cfgM m).slots t 4).cast nbuf0_4))
    (ms5 m t) (hstage0_5 (((cfgM m).slots t 5).cast nbuf0_5)) (ms6 m t) (hstage0_6 (((cfgM m).slots t 6).cast nbuf0_6))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t))

set_option maxHeartbeats 4000000 in
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  obtain ⟨e0, e1, e2, e3, e4, e5⟩ := before0 m c t
  obtain ⟨a0, a1, a2, a3, a4, a5⟩ := after0_in m c t
  simp only [e0, e1, e2, e3, e4, e5]
  rw [a0, a1, a2, a3, a4, a5, after0_6]
  rw [show (dats m 0 c).Φ t.castSucc = Phi m c t.val from rfl, show (dats m 0 c).Φ t.succ = Phi m c (t.val + 1) from rfl]
  unfold Phi Dat.owesAt Pipeline.owesWithin
  rw [show (dats m 0 c).owed t.castSucc = 0 from rfl, show (dats m 0 c).owed t.succ = 0 from rfl]
  iintro ⟨⟨⟨%x10, S0⟩, ⟨%x11, %x12, %x13, %hh, S1, S2, S3⟩, Hr, T0, T1⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (run_body c (grid0.coords t) (ms0 m t) _ (ms1 m t) _ (ms2 m t) _ (ms3 m t) _ (ms4 m t) _ (ms5 m t) _ (ms6 m t) _ _ _ _ _ _ _ _ _
    (b0 m c t) (b1 m c t) (b2 m c t) (b3 m c t) (b4 m c t) (b5 m c t) x11 x12 x13 (be m) (nus m) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexists _; iexact S0
  isplitl [S1]; · iexact S1
  isplitl [S2]; · iexact S2
  isplitl [S3]; · iexact S3
  isplitl [T0]; · iexact T0
  isplitl [T1]; · iexact T1
  rw [out_eq m c t hh]
  iintro ⟨H0, H1, H2, H3, H4, H5, H6, S0, S1, S2, S3, T0, T1⟩
  isplitl [S0 S1 S2 S3 T0 T1 Hr]
  · isplitl [S0]; · iexact S0
    isplitl [S1 S2 S3]
    · iexists _; iexists _; iexists _
      isplitr; · ipureintro; exact held_succ m c t hh
      isplitl [S1]; · iexact S1
      isplitl [S2]; · iexact S2
      iexact S3
    isplitl [Hr]; · iexact Hr
    isplitl [T0]; · iexact T0
    iexact T1
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

/-- The result's block is stored at every point. -/
theorem idle6_of (i : grid0.Coords) (w : BitVec 32) : (!(k0_cond2 i w == 1#1) && !(k0_cond3 i w == 1#1)) = false := by
  by_cases h : ((i 0).val : ℤ) < w.toInt
  · rw [(cond2_iff i w).mpr h]; rfl
  · rw [(cond3_iff i w).mpr h]
    exact Bool.and_false _

theorem idle6 (t : Fin (cfgM m).N) : (cfgM m).idle 6 ((cfgM m).grid.coords t) = false := idle6_of (grid0.coords t) _

theorem defs₀_row (t : Fin (cfgM m).N) :
    defs₀ (F := F) .tc (cfgM m).body ((cfgM m).bodyArgs t ((cfgM m).slots t)) = bodyAt m t := by
  unfold defs₀; rw [Defs.onTc_tc]

theorem leaves6 (c : Dev nD) (t : Fin (cfgM m).N) :
    owns (c : Thread nD τ) (ms6 m t) fullShare ((dats m 0 c).after 6 t) ⊢ ((dats m 0 c).leavesExact 6 t : sProp 𝕄) := by
  unfold Dat.leavesExact
  rw [idle6 m t]
  exact .rfl

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => sep_mono .rfl (sep_mono .rfl (sep_mono .rfl (sep_mono .rfl (sep_mono .rfl
    (sep_mono .rfl (sep_mono .rfl (sep_mono .rfl (leaves6 m c t))))))))

/-! ## The run -/

theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem PhiT_eq (c : Dev nD) : (Pipeline.ΦT pre0 (tbl m) c : sProp 𝕄) = iprop(tbPt c tbE (be m) ∗ tbPt c tbN (nus m)) := by
  unfold Pipeline.ΦT Pipeline.prefHeld
  rw [show (Finset.univ : Finset (Fin 2)) = insert 0 {1} from by decide, bigSep_insert (by decide), bigSep_singleton]
  rfl

theorem owns_of_pt (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole_eq]
  exact Entails.antisymm
    (show (iprop(∃ f : Buf (Elt F) ((c : Thread nD τ).loc b), ((c : Thread nD τ).loc b) ↦{fullShare} f) : sProp 𝕄)
        ⊢ iprop(∃ X : b.ty.Contents (Elt F), ∃ f : Buf (Elt F) ((c : Thread nD τ).loc b), ⌜f = X⌝ ∗ ((c : Thread nD τ).loc b) ↦{fullShare} f) by
      iintro ⟨%f, H⟩
      iexists f; iexists f
      isplitr; · ipureintro; rfl
      iexact H)
    (show (iprop(∃ X : b.ty.Contents (Elt F), ∃ f : Buf (Elt F) ((c : Thread nD τ).loc b), ⌜f = X⌝ ∗ ((c : Thread nD τ).loc b) ↦{fullShare} f) : sProp 𝕄)
        ⊢ iprop(∃ f : Buf (Elt F) ((c : Thread nD τ).loc b), ((c : Thread nD τ).loc b) ↦{fullShare} f) by
      iintro ⟨%X, %f, -, H⟩
      iexists f; iexact H)

theorem Phi_in (c : Dev nD) : iprop(Pipeline.ΦA spec0 c ∗ Pipeline.ΦT pre0 (tbl m) c) ⊢ Phi m c 0 := by
  unfold Pipeline.ΦA Phi
  rw [PhiT_eq, scopedRest0_eq, owns_of_pt, owns_of_pt, owns_of_pt, owns_of_pt]
  iintro ⟨⟨⟨⟨%x10, S0⟩, ⟨%x11, S1⟩, ⟨%x12, S2⟩, ⟨%x13, S3⟩⟩, Hr⟩, T0, T1⟩
  isplitl [S0]; · iexists _; iexact S0
  isplitl [S1 S2 S3]
  · iexists x11; iexists x12; iexists x13
    isplitr; · ipureintro; exact fun s hs => absurd hs (Nat.succ_ne_zero _)
    isplitl [S1]; · iexact S1
    isplitl [S2]; · iexact S2
    iexact S3
  isplitl [Hr]; · iexact Hr
  isplitl [T0]; · iexact T0
  iexact T1

theorem Phi_out (c : Dev nD) (n : ℕ) : Phi m c n ⊢ Pipeline.ΦA spec0 c := by
  unfold Pipeline.ΦA Phi
  rw [scopedRest0_eq, owns_of_pt, owns_of_pt, owns_of_pt, owns_of_pt]
  iintro ⟨⟨%x10, S0⟩, ⟨%x11, %x12, %x13, -, S1, S2, S3⟩, Hr, -⟩
  isplitr [Hr]
  · isplitl [S0]; · iexists _; iexact S0
    isplitl [S1]; · iexists _; iexact S1
    isplitl [S2]; · iexists _; iexact S2
    iexists _; iexact S3
  iexact Hr

set_option backward.isDefEq.respectTransparency.types false in
/-- Every run ends, the arrays as the proof data say, the machine quiescent. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := Phi_in m) (hout := fun c => Phi_out m c _)

set_option backward.isDefEq.respectTransparency.types false in
/-- What a final state holds: the result array as the proof data say, and the arguments as they were. -/
theorem run_ends : θ_run defs (onTc (τ := τ) (main (F := F))) (s₀ m ρ) (fun r => (∀ c : Dev nD,
    r.2.mem ((c.tc : Thread nD τ).loc main_v27) = (dats m 0 c).arrAt 6 (cfgM m).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun r h => ⟨fun c => by
    obtain ⟨a0, a1, a2, a3, a4, a5⟩ := V_args m c
    exact ⟨(h.1 c).1 6,
      ((h.1 c).1 0).trans (((dats m 0 c).arrAt_in 0 rfl _).trans ((A_eq m c 0).trans a0)),
      ((h.1 c).2 main_arg1 (show main_arg1 ∈ Pipeline.restRefs sig spec0 by decide)).trans a1,
      ((h.1 c).1 1).trans (((dats m 0 c).arrAt_in 1 rfl _).trans ((A_eq m c 1).trans a2)),
      ((h.1 c).2 main_arg3 (show main_arg3 ∈ Pipeline.restRefs sig spec0 by decide)).trans a3,
      ((h.1 c).1 4).trans (((dats m 0 c).arrAt_in 4 rfl _).trans ((A_eq m c 4).trans a4)),
      ((h.1 c).2 main_arg5 (show main_arg5 ∈ Pipeline.restRefs sig spec0 by decide)).trans a5⟩, h.2⟩) (run_main m ρ)

end Cert.Kernel4Ideal.Moe
-- ==== Proof.MoeVal.lean ====
/- The experts' call's value: what a row of a block in use comes to, and the kernel's result array. -/
module

public import proofs.«01_k».proof.Proof.MoeFrame
public import Idealize.ShloMosaic.Lib.IdealHost
public import Idealize.ShloMosaic.Lib.Pipeline.ValueKit.Geometry
public import Idealize.ShloMosaic.Lib.Pipeline.ValueKit.Tiles

@[expose] public section

set_option maxRecDepth 16384

noncomputable section

namespace Cert.Kernel4Ideal.Moe

open Cert.Kernel4Ideal Cert.Kernel4Ideal.Gen Idealize.ShloMosaic Idealize.ShloMosaic.TcCoe Idealize.SL.Sem Idealize.ShloMosaic.StableHlo
open Idealize.ShloMosaic.Pipeline (Dat Cfg Window)

/-! ## What is computed -/

/-- The experts' gated activation of a pair of entries. -/
def act (a b : EReal) : EReal :=
  (min (Ideal.ofBits .f32 0x40E00000#32) (max (Ideal.ofBits .f32 0xC0E00000#32) b) + Ideal.ofBits .f32 0x3F800000#32)
    * (min a (Ideal.ofBits .f32 0x40E00000#32) * Ideal.div (Ideal.ofBits .f32 0x3F800000#32)
      (Ideal.ofBits .f32 0x3F800000#32 + Ideal.exp (-(min a (Ideal.ofBits .f32 0x40E00000#32) * Ideal.ofBits .f32 0x3FD9DB23#32))))

/-- A row through the first layer of expert `e`, at column `k`. -/
def first (x : Vec Ideal S73728x1024 .f32) (w : Vec Ideal S2x32x1024x2048 .f32) (b : Vec Ideal S32x2048 .f32) (e : Fin 32) (r : Fin 73728) (k : Fin 2048) : EReal :=
  (∑ l : Fin 1024, x (ix2 r l) * w (ix4 0 e l k)) + b (ix2 e k)

/-- A row through both layers of expert `e`, at column `j`. -/
def both (x : Vec Ideal S73728x1024 .f32) (w : Vec Ideal S2x32x1024x2048 .f32) (b : Vec Ideal S32x2048 .f32) (w' : Vec Ideal S2x32x1024x1024 .f32)
    (b' : Vec Ideal S32x1024 .f32) (e : Fin 32) (r : Fin 73728) (j : Fin 1024) : EReal :=
  (∑ l : Fin 1024, act (first x w b e r ⟨2 * l.val, by omega⟩) (first x w b e r ⟨2 * l.val + 1, by omega⟩) * w' (ix4 0 e l j)) + b' (ix2 e j)

/-- The result: the rows of the blocks in use, each block's through its expert, and zeros. -/
def moe (x : Vec Ideal S73728x1024 .f32) (eb : Fin 288 → Fin 32) (n : ℤ) (w : Vec Ideal S2x32x1024x2048 .f32) (b : Vec Ideal S32x2048 .f32)
    (w' : Vec Ideal S2x32x1024x1024 .f32) (b' : Vec Ideal S32x1024 .f32) : Vec Ideal S73728x1024 .f32 := fun y =>
  have h0 : (y 0).val < 73728 := (y 0).isLt
  if (((y 0).val / 256 : ℕ) : ℤ) < n then both x w b w' b' (eb ⟨(y 0).val / 256, by omega⟩) (y 0) (y 1) else 0

/-! ## A block -/

theorem blk_at (x : Vec Ideal S256x1024 .f32) (g u d : Vec Ideal S1024x1024 .bf16) (bg bu bd : Vec Ideal S1x1x1024 .f32) (s : Fin 256) (j : Fin 1024) :
    blk x g bg u bu d bd (ix2 s j)
      = (∑ l : Fin 1024, act ((∑ k : Fin 1024, x (ix2 s k) * g (ix2 l k)) + bg (ix3 0 0 l)) ((∑ k : Fin 1024, x (ix2 s k) * u (ix2 l k)) + bu (ix3 0 0 l)) * d (ix2 l j))
          + bd (ix3 0 0 j) := by
  unfold act blk
  pointwise [k0_pay2, k0_pay63]
  simp only [sub_eq_add_neg, zero_add]

theorem zeros_at (y : S256x1024.Idx) : (k0_pay3 (F := Ideal)) y = 0 := by
  pointwise [k0_pay3]

variable (m : (ℓ : Loc nD τ sig) → Buf (Elt Ideal) ℓ) (c : Dev nD)

attribute [local irreducible] V

theorem wg_at (w : Vec Ideal S1x1x1024x2048 .f32) (l k : Fin 1024) : wg w (ix2 l k) = w (ix4 0 0 k ⟨2 * l.val, by omega⟩) := rfl
theorem wu_at (w : Vec Ideal S1x1x1024x2048 .f32) (l k : Fin 1024) : wu w (ix2 l k) = w (ix4 0 0 k ⟨2 * l.val + 1, by omega⟩) := rfl
theorem wd_at (w : Vec Ideal S1x1x1024x1024 .f32) (l j : Fin 1024) : wd w (ix2 l j) = w (ix4 0 0 l j) := by
  unfold wd
  pointwise [k0_pay1, k0_pay62]

/-! ## The blocks a point reads -/

abbrev xa : Vec Ideal S73728x1024 .f32 := m ((c.tc : Thread nD τ).loc main_arg0)
abbrev wa : Vec Ideal S2x32x1024x2048 .f32 := m ((c.tc : Thread nD τ).loc main_arg2)
abbrev ba : Vec Ideal S32x2048 .f32 := m ((c.tc : Thread nD τ).loc main_arg3)
abbrev wa' : Vec Ideal S2x32x1024x1024 .f32 := m ((c.tc : Thread nD τ).loc main_arg4)
abbrev ba' : Vec Ideal S32x1024 .f32 := m ((c.tc : Thread nD τ).loc main_arg5)

theorem tr0 (i : grid0.Coords) : cc0_transform_0 i = ![(i 0).val, 0] := by
  have h0 : (i 0).val < 288 := (i 0).isLt
  funext a
  match a with
  | ⟨0, _⟩ => show (BitVec.ofNat 32 (i 0).val).toNat = (i 0).val; rw [BitVec.toNat_ofNat]; omega
  | ⟨1, _⟩ => rfl

theorem tr2 (pf : pre0.Contents (Elt Ideal)) (i : grid0.Coords) :
    cc0_transform_2 k0_off1_inb numel1_S1 pf i = ![(ex (pf 0 : S288.Idx → BitVec 32) i).toNat, 0, 0] :=
  congrArg (fun w : BitVec 32 => (![w.toNat, 0, 0] : Fin 3 → ℕ)) (at_eq pf i (k0_off1_inb i) numel1_S1)

theorem tr3 (pf : pre0.Contents (Elt Ideal)) (i : grid0.Coords) :
    cc0_transform_3 k0_off1_inb numel1_S1 pf i = ![(ex (pf 0 : S288.Idx → BitVec 32) i).toNat, 0, 0] := tr2 pf i

theorem tr5 (pf : pre0.Contents (Elt Ideal)) (i : grid0.Coords) :
    cc0_transform_5 k0_off1_inb numel1_S1 pf i = ![(ex (pf 0 : S288.Idx → BitVec 32) i).toNat, 0, 0] := tr2 pf i

/-- A row of a point's block, as a row of the array. -/
def row (t : Fin grid0.N) (s : Fin 256) : Fin 73728 :=
  ⟨(grid0.coords t 0).val * 256 + s.val, by have h : (grid0.coords t 0).val < 288 := (grid0.coords t 0).isLt; omega⟩

set_option maxHeartbeats 2000000 in
theorem b0_at (t : Fin grid0.N) (s : Fin 256) (k : Fin 1024) : b0 m c t (ix2 s k) = xa m c (ix2 (row t s) k) := by
  rw [show xa m c = V m c main_arg0 from (V_args m c).1.symm]
  refine congrArg (V m c main_arg0 : Vec Ideal S73728x1024 .f32) (funext fun a => Fin.ext ?_)
  refine (((cfgM m).win 0).rect_emb_val t (ix2 s k) a).trans ?_
  have e : ((cfgM m).win 0).index t = ![(grid0.coords t 0).val, 0] := tr0 (grid0.coords t)
  rw [e]
  match a with
  | ⟨0, _⟩ => rfl
  | ⟨1, _⟩ => show 0 * 1024 + k.val = k.val; omega

/-! A bias row's block is the point's expert's row. -/

set_option maxHeartbeats 2000000 in
theorem b2_at (t : Fin grid0.N) (l : Fin 1024) : b2 m c t (ix3 0 0 l) = ba m c (ix2 (eOf m (grid0.coords t)) ⟨2 * l.val, by omega⟩) := by
  have h : b2 m c t (ix3 0 0 l) = (V m c main_v23 : Vec Ideal S32x1x1024 .f32) (ix3 (eOf m (grid0.coords t)) 0 l) := by
    refine congrArg (V m c main_v23 : Vec Ideal S32x1x1024 .f32) (funext fun a => Fin.ext ?_)
    refine (((cfgM m).win 2).rect_emb_val t (ix3 0 0 l) a).trans ?_
    have e : ((cfgM m).win 2).index t = ![(eOf m (grid0.coords t)).val, 0, 0] := tr2 (tbl m) (grid0.coords t)
    rw [e]
    match a with
    | ⟨0, _⟩ => show (eOf m (grid0.coords t)).val * 1 + 0 = (eOf m (grid0.coords t)).val; omega
    | ⟨1, _⟩ => rfl
    | ⟨2, _⟩ => show 0 * 1024 + l.val = l.val; omega
  rw [h, (V_rows m c).1]
  generalize eOf m (grid0.coords t) = q
  pointwise

set_option maxHeartbeats 2000000 in
theorem b3_at (t : Fin grid0.N) (l : Fin 1024) : b3 m c t (ix3 0 0 l) = ba m c (ix2 (eOf m (grid0.coords t)) ⟨2 * l.val + 1, by omega⟩) := by
  have h : b3 m c t (ix3 0 0 l) = (V m c main_v25 : Vec Ideal S32x1x1024 .f32) (ix3 (eOf m (grid0.coords t)) 0 l) := by
    refine congrArg (V m c main_v25 : Vec Ideal S32x1x1024 .f32) (funext fun a => Fin.ext ?_)
    refine (((cfgM m).win 3).rect_emb_val t (ix3 0 0 l) a).trans ?_
    have e : ((cfgM m).win 3).index t = ![(eOf m (grid0.coords t)).val, 0, 0] := tr3 (tbl m) (grid0.coords t)
    rw [e]
    match a with
    | ⟨0, _⟩ => show (eOf m (grid0.coords t)).val * 1 + 0 = (eOf m (grid0.coords t)).val; omega
    | ⟨1, _⟩ => rfl
    | ⟨2, _⟩ => show 0 * 1024 + l.val = l.val; omega
  rw [h, (V_rows m c).2.1]
  generalize eOf m (grid0.coords t) = q
  pointwise
  exact congrArg (fun z => ba m c (ix2 q z)) (Fin.ext (Nat.add_comm _ _))

set_option maxHeartbeats 2000000 in
theorem b5_at (t : Fin grid0.N) (l : Fin 1024) : b5 m c t (ix3 0 0 l) = ba' m c (ix2 (eOf m (grid0.coords t)) l) := by
  have h : b5 m c t (ix3 0 0 l) = (V m c main_v26 : Vec Ideal S32x1x1024 .f32) (ix3 (eOf m (grid0.coords t)) 0 l) := by
    refine congrArg (V m c main_v26 : Vec Ideal S32x1x1024 .f32) (funext fun a => Fin.ext ?_)
    refine (((cfgM m).win 5).rect_emb_val t (ix3 0 0 l) a).trans ?_
    have e : ((cfgM m).win 5).index t = ![(eOf m (grid0.coords t)).val, 0, 0] := tr5 (tbl m) (grid0.coords t)
    rw [e]
    match a with
    | ⟨0, _⟩ => show (eOf m (grid0.coords t)).val * 1 + 0 = (eOf m (grid0.coords t)).val; omega
    | ⟨1, _⟩ => rfl
    | ⟨2, _⟩ => show 0 * 1024 + l.val = l.val; omega
  rw [h, (V_rows m c).2.2]
  generalize eOf m (grid0.coords t) = q
  pointwise

/-- A point in use leaves its rows' values through its expert. -/
theorem blk_both (t : Fin grid0.N) (s : Fin 256) (j : Fin 1024) :
    blk (b0 m c t) (wg (b1 m c t)) (b2 m c t) (wu (b1 m c t)) (b3 m c t) (wd (b4 m c t)) (b5 m c t) (ix2 s j)
      = both (xa m c) (wa m c) (ba m c) (wa' m c) (ba' m c) (eOf m (grid0.coords t)) (row t s) j := by
  have h1 : ∀ y, b1 m c t y = wa m c (ix4 0 (eOf m (grid0.coords t)) (y 2) (y 3)) := fun y => by
    rw [b1_at, show V m c main_arg2 = wa m c from (V_args m c).2.2.1]
  have h4 : ∀ y, b4 m c t y = wa' m c (ix4 0 (eOf m (grid0.coords t)) (y 2) (y 3)) := fun y => by
    rw [b4_at, show V m c main_arg4 = wa' m c from (V_args m c).2.2.2.2.1]
  rw [blk_at, b5_at]
  unfold both first
  simp only [wg_at, wu_at, wd_at, h1, h4, b0_at, b2_at, b3_at]
  rfl

/-! ## The result array -/

/-- The result's window, whose blocks do not depend on the tables. -/
abbrev resWin : Window sig grid0 :=
  Pipeline.Window.ofSpec (Memref.whole main_v27) S256x1024.size cc0_transform_6 reads0_6 true false 2 stage0_6 sem0_6
    hrank0 hreads0_6 hinb0_6 nbuf0_6 (Memref.isWhole_whole _) hwx0_6 hstage0_6

theorem covers_res : resWin.Covers := by decide +kernel

theorem covers6 : ((cfgM m).win 6).Covers := covers_res

/-- Block `t`'s expert. -/
def ebm (t : Fin 288) : Fin 32 := ⟨(be m (ix1 t)).toNat, be_lt m _⟩

theorem block_moe (t : Fin grid0.N) (s : Fin 256) (j : Fin 1024) :
    out m c t (ix2 s j) = moe (xa m c) (ebm m) (nu (nus m)) (wa m c) (ba m c) (wa' m c) (ba' m c) (ix2 (row t s) j) := by
  have h0 : (grid0.coords t 0).val < 288 := (grid0.coords t 0).isLt
  have hr : (row t s).val / 256 = (grid0.coords t 0).val := by
    show ((grid0.coords t 0).val * 256 + s.val) / 256 = _
    omega
  have he : ebm m ⟨(row t s).val / 256, by rw [hr]; exact h0⟩ = eOf m (grid0.coords t) := by
    refine Fin.ext ?_
    show (be m (ix1 _)).toNat = (be m (ix1 (grid0.coords t 0))).toNat
    exact congrArg (fun z : Fin 288 => (be m (ix1 z)).toNat) (Fin.ext hr)
  unfold out moe
  show _ = if (((row t s).val / 256 : ℕ) : ℤ) < nu (nus m) then both _ _ _ _ _ (ebm m ⟨(row t s).val / 256, _⟩) (row t s) j else 0
  rw [he, hr]
  by_cases hl : Live (nus m) (grid0.coords t)
  · rw [if_pos hl, if_pos hl, blk_both]
  · rw [if_neg hl, if_neg hl, zeros_at]

/-- Window 6's block at `t` sits at the point's rows. -/
theorem emb6 (t : Fin grid0.N) (z : S256x1024.Idx) :
    (((cfgM m).win 6).rect t).emb z = (ix2 (row t (z 0)) (z 1) : S73728x1024.Idx) := by
  funext a
  refine Fin.ext ((((cfgM m).win 6).rect_emb_val t z a).trans ?_)
  have e : ((cfgM m).win 6).index t = ![(grid0.coords t 0).val, 0] := tr0 (grid0.coords t)
  rw [e]
  match a with
  | ⟨0, _⟩ => rfl
  | ⟨1, _⟩ => show 0 * 1024 + (z 1).val = (z 1).val; omega

theorem after6 (t : Fin grid0.N) (z : S256x1024.Idx) :
    (dats m 0 c).after 6 t z =
      moe (xa m c) (ebm m) (nu (nus m)) (wa m c) (ba m c) (wa' m c) (ba' m c) ((((cfgM m).win 6).rect t).emb z) := by
  have hz : z = (ix2 (z 0) (z 1) : S256x1024.Idx) := by
    funext a
    match a with
    | ⟨0, _⟩ => rfl
    | ⟨1, _⟩ => rfl
  exact (congrFun (after0_6 m c t) z).trans ((congrArg (out m c t) hz).trans ((block_moe m c t (z 0) (z 1)).trans
    (congrArg (moe _ _ _ _ _ _ _) (emb6 m t z).symm)))

theorem final : (dats m 0 c).arrAt 6 (cfgM m).N = moe (xa m c) (ebm m) (nu (nus m)) (wa m c) (ba m c) (wa' m c) (ba' m c) :=
  (dats m 0 c).arrAt_eq_of_covers 6 _ (covers6 m) fun t _ y => after6 m c t y

end Cert.Kernel4Ideal.Moe
-- ==== Proof.MoeRef.lean ====
/- The reference's experts' call read at an entry: a table of experts' rows gathered at each block's expert. -/
module

public import proofs.«01_k».proof.Proof.MoeVal
public import Idealize.ShloMosaic.Lib.Routing.Ops

@[expose] public section

set_option maxRecDepth 16384

noncomputable section

namespace Cert.Reference4Ideal.Moe

open Cert.Reference4Ideal Cert.Reference4Ideal.Gen Idealize.ShloMosaic Idealize.ShloMosaic.TcCoe Idealize.SL.Sem Idealize.ShloMosaic.StableHlo
open Cert.Reference4Ideal.Read Cert.Kernel4Ideal.Moe

/-- `table[idx]` over the first axis of a table of matrices: where `idx` holds a number `b` below the table's length, the
    result's matrix is the table's `b`-th. -/
theorem gather_matrix {α : Type} {nb p q n : ℕ} (d : GatherDims ⟨3, ![nb, p, q]⟩ ⟨2, ![n, 1]⟩ ⟨3, ![n, p, q]⟩) (hoff : d.offsetDims = [1, 2])
    (hcoll : d.collapsedSliceDims = [0]) (hob : d.operandBatchingDims = []) (hsim : d.startIndexMap = [0]) (hivd : d.indexVectorDim = 1)
    (x : (⟨3, ![nb, p, q]⟩ : Shape).Idx → α) (idx : IVec ⟨2, ![n, 1]⟩ 32) (c : Fin n) (y : Fin p) (z : Fin q) (b : Fin nb)
    (hb : (idx (ix2 c (0 : Fin 1))).toInt = b.val) : Host.gather d x idx (ix3 c y z) = x (ix3 b y z) := by
  obtain ⟨od, cd, obd, sbd, sim, ivd, ss, wf⟩ := d
  dsimp only at hoff hcoll hob hsim hivd
  subst hoff hcoll hob hsim hivd
  have hss : ss 0 = 1 := GatherDims.slice_collapsed ⟨[1, 2], [0], [], sbd, [0], 1, ss, wf⟩ 0 (List.mem_singleton.2 rfl)
  unfold Host.gather
  refine congrArg x (funext fun a => Fin.ext ?_)
  match a with
  | ⟨0, _⟩ =>
    show GatherDims.start _ (ix3 c y z) idx 0 + GatherDims.batchCoord _ (ix3 c y z) 0 + GatherDims.offCoord _ (ix3 c y z) 0 = b.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    have e : ∀ k, GatherDims.siIdx ⟨[1, 2], [0], [], sbd, [0], 1, ss, wf⟩ (ix3 c y z) k = ix2 c (0 : Fin 1) := fun k => by
      funext a'; refine Fin.ext ?_
      match a' with
      | ⟨0, _⟩ => rfl
      | ⟨1, _⟩ =>
        have hk : k.val < 1 := k.isLt
        show k.val = 0
        omega
    rw [e, hb]
    have := b.isLt
    show min (Int.toNat (b.val : ℤ)) (nb - ss 0) + 0 + 0 = b.val
    rw [hss, Int.toNat_natCast]
    omega
  | ⟨1, _⟩ =>
    show GatherDims.start _ (ix3 c y z) idx 1 + GatherDims.batchCoord _ (ix3 c y z) 1 + GatherDims.offCoord _ (ix3 c y z) 1 = y.val
    rw [GatherDims.batchCoord_eq_zero _ _ _ List.not_mem_nil]
    unfold GatherDims.start GatherDims.offCoord
    rw [dif_neg (fun h => by cases List.mem_singleton.mp h), dif_pos ((GatherDims.mem_sKept _ _).mpr ⟨fun h => (by cases List.mem_singleton.mp h), List.not_mem_nil⟩), Nat.zero_add]
    rfl
  | ⟨2, _⟩ =>
    show GatherDims.start _ (ix3 c y z) idx 2 + GatherDims.batchCoord _ (ix3 c y z) 2 + GatherDims.offCoord _ (ix3 c y z) 2 = z.val
    rw [GatherDims.batchCoord_eq_zero _ _ _ List.not_mem_nil]
    unfold GatherDims.start GatherDims.offCoord
    rw [dif_neg (fun h => by cases List.mem_singleton.mp h), dif_pos ((GatherDims.mem_sKept _ _).mpr ⟨fun h => (by cases List.mem_singleton.mp h), List.not_mem_nil⟩), Nat.zero_add]
    rfl

variable (x0 : Vec Ideal S73728x1024 .f32) (x1 : (⟨S32, .i32⟩ : BufTy).Contents (Elt Ideal)) (x2 : Vec Ideal S2x32x1024x2048 .f32) (x3 : Vec Ideal S32x2048 .f32)
  (x4 : Vec Ideal S2x32x1024x1024 .f32) (x5 : Vec Ideal S32x1024 .f32)

/-- Block `t`'s expert. -/
def eb (t : Fin 288) : Fin 32 := ⟨(val_main_v19 (F := Ideal) x1 (ix1 t) : BitVec 32).toNat, Nat.lt_succ_of_le (be_le x1 _)⟩

/-- The wrapped index is the block's expert: a word of at most 31 is not negative. -/
theorem wrap (w : BitVec 32) (h : w.toNat ≤ 31) : Scalar.select (IntOp.cmpi .slt w 0#32) (IntOp.addi w 32#32) w = w := by
  have e : w.slt 0#32 = false := by
    rw [Bool.eq_false_iff, ne_eq, BitVec.slt_iff_toInt_lt, BitVec.toInt_eq_toNat_of_lt (by omega)]
    have : (0#32 : BitVec 32).toInt = 0 := by decide
    omega
  show (if BitVec.ofBool (w.slt 0#32) = 1#1 then _ else _) = _
  rw [e]; rfl

theorem index_at (t : Fin 288) : (val_main_v28 (F := Ideal) x1 (ix2 t 0) : BitVec 32) = val_main_v19 (F := Ideal) x1 (ix1 t) := by
  have hi : idx_main_v28 (ix2 t 0) = ix1 t := funext fun a => match a with | ⟨0, _⟩ => rfl
  rw [val_main_v28_apply, hi, val_main_v27_apply, val_main_v24_apply, val_main_v26_apply, val_main_v23_apply, val_main_v25_apply,
    val_main_c_6_apply, val_main_c_7_apply]
  exact wrap _ (be_le x1 _)

theorem index_int (t : Fin 288) : (val_main_v28 (F := Ideal) x1 (ix2 t 0) : BitVec 32).toInt = ((eb x1 t).val : ℤ) := by
  have h := be_le (F := Ideal) x1 (ix1 t)
  rw [index_at, BitVec.toInt_eq_toNat_of_lt (by omega)]
  rfl

theorem index_word (t : Fin 288) : (val_main_v28 (F := Ideal) x1 (ix2 t 0) : BitVec 32) = BitVec.ofNat 32 (eb x1 t).val := by
  rw [index_at]
  exact (BitVec.setWidth_eq _).symm.trans (BitVec.ofNat_toNat 32 _).symm

/-! ## The tables' rows -/

theorem w1_at (t : Fin 288) (l : Fin 1024) (k : Fin 2048) : val_main_v29 (F := Ideal) x1 x2 (ix3 t l k) = x2 (ix4 0 (eb x1 t) l k) := by
  unfold val_main_v29
  rw [gather_matrix _ rfl rfl rfl rfl rfl (val_main_v22 x2) (val_main_v28 x1) t l k (eb x1 t) (index_int x1 t), val_main_v22_apply, val_main_v21_apply]
  generalize eb x1 t = e
  refine congrArg x2 (funext fun a => Fin.ext ?_)
  have h0 := e.isLt
  have h1 := l.isLt
  have h2 := k.isLt
  match a with
  | ⟨0, _⟩ => rfl
  | ⟨1, _⟩ => show ((e.val * 1024 + l.val) * 2048 + k.val) / 2097152 % 32 = e.val; omega
  | ⟨2, _⟩ => show ((e.val * 1024 + l.val) * 2048 + k.val) / 2048 % 1024 = l.val; omega
  | ⟨3, _⟩ => show ((e.val * 1024 + l.val) * 2048 + k.val) % 2048 = k.val; omega

theorem w2_at (t : Fin 288) (l j : Fin 1024) : val_main_v66 (F := Ideal) x1 x4 (ix3 t l j) = x4 (ix4 0 (eb x1 t) l j) := by
  have hi : (val_main_v65 (F := Ideal) x1) = val_main_v28 x1 := rfl
  unfold val_main_v66
  rw [hi, gather_matrix _ rfl rfl rfl rfl rfl (val_main_v59 x4) (val_main_v28 x1) t l j (eb x1 t) (index_int x1 t), val_main_v59_apply, val_main_v58_apply]
  generalize eb x1 t = e
  refine congrArg x4 (funext fun a => Fin.ext ?_)
  have h0 := e.isLt
  have h1 := l.isLt
  have h2 := j.isLt
  match a with
  | ⟨0, _⟩ => rfl
  | ⟨1, _⟩ => show ((e.val * 1024 + l.val) * 1024 + j.val) / 1048576 % 32 = e.val; omega
  | ⟨2, _⟩ => show ((e.val * 1024 + l.val) * 1024 + j.val) / 1024 % 1024 = l.val; omega
  | ⟨3, _⟩ => show ((e.val * 1024 + l.val) * 1024 + j.val) % 1024 = j.val; omega

theorem bias1_at (t : Fin 288) (s : Fin 256) (k : Fin 2048) : val_main_v39 (F := Ideal) x1 x3 (ix3 t s k) = x3 (ix2 (eb x1 t) k) := by
  have hi : (val_main_v36 (F := Ideal) x1) = val_main_v28 x1 := rfl
  have hj : idx_main_v38 (idx_main_v39 (ix3 t s k)) = (ix2 t k : S288x2048.Idx) := funext fun a => match a with
    | ⟨0, _⟩ => rfl
    | ⟨1, _⟩ => rfl
  rw [val_main_v39_apply, val_main_v38_apply, hj]
  unfold val_main_v37
  rw [hi]
  exact Routing.gather_row _ rfl rfl rfl rfl rfl x3 (val_main_v28 x1) t k (eb x1 t) (index_word x1 t) (by decide)

theorem bias2_at (t : Fin 288) (s : Fin 256) (j : Fin 1024) : val_main_v76 (F := Ideal) x1 x5 (ix3 t s j) = x5 (ix2 (eb x1 t) j) := by
  have hi : (val_main_v73 (F := Ideal) x1) = val_main_v28 x1 := rfl
  have hj : idx_main_v75 (idx_main_v76 (ix3 t s j)) = (ix2 t j : S288x1024.Idx) := funext fun a => match a with
    | ⟨0, _⟩ => rfl
    | ⟨1, _⟩ => rfl
  rw [val_main_v76_apply, val_main_v75_apply, hj]
  unfold val_main_v74
  rw [hi]
  exact Routing.gather_row _ rfl rfl rfl rfl rfl x5 (val_main_v28 x1) t j (eb x1 t) (index_word x1 t) (by decide)

/-! ## The two layers -/

/-- A block's row, as a row of the array. -/
def at_ (t : Fin 288) (s : Fin 256) : Fin 73728 := ⟨t.val * 256 + s.val, by omega⟩

theorem x_at (t : Fin 288) (s : Fin 256) (l : Fin 1024) : val_main_v20 (F := Ideal) x0 (ix3 t s l) = x0 (ix2 (at_ t s) l) := by
  rw [val_main_v20_apply]
  refine congrArg x0 (funext fun a => Fin.ext ?_)
  have h2 := l.isLt
  match a with
  | ⟨0, _⟩ => show ((t.val * 256 + s.val) * 1024 + l.val) / 1024 = t.val * 256 + s.val; omega
  | ⟨1, _⟩ => show ((t.val * 256 + s.val) * 1024 + l.val) % 1024 = l.val; omega

theorem first_at (t : Fin 288) (s : Fin 256) (k : Fin 2048) :
    val_main_v40 (F := Ideal) x0 x1 x2 x3 (ix3 t s k) = first x0 x2 x3 (eb x1 t) (at_ t s) k := by
  rw [val_main_v40_apply, val_main_v30_apply, bias1_at]
  unfold first
  refine congrArg (· + x3 (ix2 (eb x1 t) k)) (Finset.sum_congr rfl fun l _ => ?_)
  have hl : lidx_main_v30 (ix3 t s k) l = ix3 t s l := funext fun a => match a with
    | ⟨0, _⟩ => rfl
    | ⟨1, _⟩ => rfl
    | ⟨2, _⟩ => rfl
  have hr : ridx_main_v30 (ix3 t s k) l = ix3 t l k := funext fun a => match a with
    | ⟨0, _⟩ => rfl
    | ⟨1, _⟩ => rfl
    | ⟨2, _⟩ => rfl
  rw [hl, hr, x_at, w1_at]

theorem gate_at (t : Fin 288) (s : Fin 256) (l : Fin 1024) :
    val_main_v41 (F := Ideal) x0 x1 x2 x3 (ix3 t s l) = first x0 x2 x3 (eb x1 t) (at_ t s) ⟨2 * l.val, by omega⟩ := by
  rw [← first_at]
  unfold val_main_v41
  generalize val_main_v40 (F := Ideal) x0 x1 x2 x3 = y
  refine congrArg y (funext fun a => Fin.ext ?_)
  match a with
  | ⟨0, _⟩ => show 0 + 1 * t.val = t.val; omega
  | ⟨1, _⟩ => show 0 + 1 * s.val = s.val; omega
  | ⟨2, _⟩ => show 0 + 2 * l.val = 2 * l.val; omega

theorem up_at (t : Fin 288) (s : Fin 256) (l : Fin 1024) :
    val_main_v44 (F := Ideal) x0 x1 x2 x3 (ix3 t s l) = first x0 x2 x3 (eb x1 t) (at_ t s) ⟨2 * l.val + 1, by omega⟩ := by
  rw [← first_at]
  unfold val_main_v44
  generalize val_main_v40 (F := Ideal) x0 x1 x2 x3 = y
  refine congrArg y (funext fun a => Fin.ext ?_)
  match a with
  | ⟨0, _⟩ => show 0 + 1 * t.val = t.val; omega
  | ⟨1, _⟩ => show 0 + 1 * s.val = s.val; omega
  | ⟨2, _⟩ => show 1 + 2 * l.val = 2 * l.val + 1; omega

theorem act_at (i : S288x256x1024.Idx) :
    val_main_v57 (F := Ideal) x0 x1 x2 x3 i = act (val_main_v41 (F := Ideal) x0 x1 x2 x3 i) (val_main_v44 (F := Ideal) x0 x1 x2 x3 i) := by
  rw [val_main_v57_apply, val_main_v56_apply, val_main_v55_apply, val_main_v54_apply, val_main_v53_apply, val_main_v52_apply, val_main_v51_apply,
    val_main_v50_apply, val_main_v49_apply, val_main_v48_apply, val_main_v47_apply, val_main_v46_apply, val_main_v45_apply, val_main_v43_apply,
    val_main_v42_apply, val_main_call2_v4_apply, val_main_call2_v2_apply, val_main_call2_v1_apply]
  rfl

theorem both_at (t : Fin 288) (s : Fin 256) (j : Fin 1024) :
    val_main_v77 (F := Ideal) x0 x1 x2 x3 x4 x5 (ix3 t s j) = both x0 x2 x3 x4 x5 (eb x1 t) (at_ t s) j := by
  rw [val_main_v77_apply, val_main_v67_apply, bias2_at]
  unfold both
  refine congrArg (· + x5 (ix2 (eb x1 t) j)) (Finset.sum_congr rfl fun l _ => ?_)
  have hl : lidx_main_v67 (ix3 t s j) l = ix3 t s l := funext fun a => match a with
    | ⟨0, _⟩ => rfl
    | ⟨1, _⟩ => rfl
    | ⟨2, _⟩ => rfl
  have hr : ridx_main_v67 (ix3 t s j) l = ix3 t l j := funext fun a => match a with
    | ⟨0, _⟩ => rfl
    | ⟨1, _⟩ => rfl
    | ⟨2, _⟩ => rfl
  rw [hl, hr, act_at, gate_at, up_at, w2_at]

/-! ## The blocks in use -/

/-- Block `t` is in use: its number is below the count. -/
theorem used_at (t : Fin 288) (s : Fin 256) (j : Fin 1024) :
    val_main_call4_v1 (F := Ideal) x1 (ix3 t s j) = BitVec.ofBool ((BitVec.ofNat 32 t.val).slt (val_main_v79 (F := Ideal) x1 (ix1 0))) := by
  have hi : idx_main_v80 (idx_main_v82 (idx_main_call4_v1 (ix3 t s j))) = ix1 0 := funext fun a => match a with | ⟨0, _⟩ => rfl
  rw [val_main_call4_v1_apply, val_main_v82_apply, val_main_v81_apply, val_main_v80_apply, hi]
  rfl

theorem slt_iff (t : Fin 288) (w : BitVec 32) : (BitVec.ofNat 32 t.val).slt w = true ↔ ((t.val : ℕ) : ℤ) < w.toInt := by
  rw [BitVec.slt_iff_toInt_lt, StableHlo.Predicate.toInt_ofNat_small _ (by omega)]

theorem val_at (r : Fin 73728) (j : Fin 1024) : val_main_v84 (F := Ideal) x0 x1 x2 x3 x4 x5 (ix2 r j) =
    moe x0 (eb x1) (val_main_v79 (F := Ideal) x1 (ix1 0) : BitVec 32).toInt x2 x3 x4 x5 (ix2 r j) := by
  have h0 := r.isLt
  have h1 := j.isLt
  have hi : idx_main_v84 (ix2 r j) = (ix3 ⟨r.val / 256, by omega⟩ ⟨r.val % 256, by omega⟩ j : S288x256x1024.Idx) := funext fun a => Fin.ext (match a with
    | ⟨0, _⟩ => by show (r.val * 1024 + j.val) / 262144 = r.val / 256; omega
    | ⟨1, _⟩ => by show (r.val * 1024 + j.val) / 1024 % 256 = r.val % 256; omega
    | ⟨2, _⟩ => by show (r.val * 1024 + j.val) % 1024 = j.val; omega)
  have ha : at_ ⟨r.val / 256, by omega⟩ ⟨r.val % 256, by omega⟩ = r :=
    Fin.ext (by show r.val / 256 * 256 + r.val % 256 = r.val; omega)
  rw [val_main_v84_apply, hi, val_main_v83_apply, used_at, both_at, ha]
  have hl := slt_iff ⟨r.val / 256, by omega⟩ (val_main_v79 (F := Ideal) x1 (ix1 0))
  show _ = if ((r.val / 256 : ℕ) : ℤ) < (val_main_v79 (F := Ideal) x1 (ix1 0) : BitVec 32).toInt then both x0 x2 x3 x4 x5 (eb x1 ⟨r.val / 256, _⟩) r j else 0
  by_cases h : ((r.val / 256 : ℕ) : ℤ) < (val_main_v79 (F := Ideal) x1 (ix1 0) : BitVec 32).toInt
  · rw [if_pos h, hl.2 h]; rfl
  · rw [if_neg h, (Bool.eq_false_iff.2 fun e => h (hl.1 e))]
    show val_main_call4_v2 (F := Ideal) (ix3 ⟨r.val / 256, by omega⟩ ⟨r.val % 256, by omega⟩ j) = 0
    rw [val_main_call4_v2_apply]
    unfold val_main_call4_v0 val_main_cst_21
    rw [id_eq]
    pointwise

theorem val : val_main_v84 (F := Ideal) x0 x1 x2 x3 x4 x5 = moe x0 (eb x1) (val_main_v79 (F := Ideal) x1 (ix1 0) : BitVec 32).toInt x2 x3 x4 x5 := by
  funext y
  have hy : y = (ix2 (y 0) (y 1) : S73728x1024.Idx) := funext fun a => match a with
    | ⟨0, _⟩ => rfl
    | ⟨1, _⟩ => rfl
  rw [hy]
  exact val_at x0 x1 x2 x3 x4 x5 (y 0) (y 1)

/-! ## The tables the kernel reads -/

attribute [local irreducible] Cert.Kernel4Ideal.Moe.V

variable (m : (ℓ : Loc Cert.Kernel4Ideal.nD Cert.Kernel4Ideal.τ Cert.Kernel4Ideal.sig) → Buf (Elt Ideal) ℓ)

theorem ebm_eq : ebm m = eb (gs m 0) := by
  funext t
  refine Fin.ext ?_
  show (be m (ix1 t)).toNat = (val_main_v19 (F := Ideal) (gs m 0) (ix1 t) : BitVec 32).toNat
  rw [be_eq]

theorem nu_eq : nu (nus m) = (val_main_v79 (F := Ideal) (gs m 0) (ix1 0) : BitVec 32).toInt := by
  show (nus m (ix1 0)).toInt = _
  rw [nus_eq]

/-- The two programs' results are one function of the arguments. -/
theorem meet (c : Dev Cert.Kernel4Ideal.nD) : val_main_v84 (F := Ideal) (xa m c) (gs m c) (wa m c) (ba m c) (wa' m c) (ba' m c) =
    moe (xa m c) (ebm m) (nu (nus m)) (wa m c) (ba m c) (wa' m c) (ba' m c) := by
  obtain rfl : c = 0 := Subsingleton.elim _ _
  rw [ebm_eq, nu_eq]
  exact val _ _ _ _ _ _

end Cert.Reference4Ideal.Moe
-- ==== Proof.lean ====
/- The claims put together: the frames, the named constant, and the value of the result. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Gen.Reference4Ideal.Read
public import proofs.«01_k».proof.Proof.Out
public import proofs.«01_k».proof.Proof.AbProj
public import proofs.«01_k».proof.Proof.CdProj
public import proofs.«01_k».proof.Proof.MoeRef
public import Idealize.ShloMosaic.PureOps.IdealRules
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's frame: its run, the arguments unchanged; it declares no semaphore. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- The kernel's result and the reference's are one function of the arguments. -/
theorem value : Cert.algebraic_KernelIdeal_ReferenceIdeal := fun m ρ m' ρ' _ hag =>
  ⟨fun c => Cert.KernelIdeal.Att.mixed (Cert.KernelIdeal.Att.qa m c) (Cert.KernelIdeal.Att.ka m c) (Cert.KernelIdeal.Att.va m c),
    (θ_run _ _ _).mono (fun _ h c => ⟨(h c).1.trans (Cert.KernelIdeal.Att.final m c), (h c).2⟩) (Cert.KernelIdeal.Value.run_blocks m ρ),
    (θ_run _ _ _).mono (fun _ h c => ⟨(h c).1.trans (by
      rw [Cert.ReferenceIdeal.Read.val_main_v112_eq, (hag c).1, (hag c).2.1, (hag c).2.2]
      exact Cert.KernelIdeal.Att.reference_eq _ _ _), (h c).2⟩) (Cert.ReferenceIdeal.Value.run m' ρ')⟩

/-! ## The first input projection -/

theorem reference2_frame : Cert.quiescent_Reference2Ideal := fun m ρ _ =>
  (θ_run _ _ _).mono (fun r h => ⟨fun c => (h c).2.2.2.2.2, sem_eq_zero_of_no_sems (by decide) r.2⟩) (Cert.Reference2Ideal.Value.run m ρ)

open Cert.Kernel2Ideal.Ab Cert.Reference2Ideal.Ab Cert.Reference2Ideal.Read in
/-- The five results of the kernel and of the reference are the same functions of the arguments. -/
theorem value2 : Cert.algebraic_Kernel2Ideal_Reference2Ideal := fun m ρ m' ρ' _ hag =>
  ⟨fun c => cq (xa m c) (wa m c) (gq m c), fun c => ckv (xa m c) (wa m c) (gkv m c), fun c => kidx (xa m c) (wa m c) (gk m c) (bk m c),
    fun c => small (xa m c) (wa m c), fun c => qkvz (xa m c) (wa m c),
    (θ_run _ _ _).mono (fun _ h c => ⟨(h c).1.trans (final6 m c), (h c).2.1.trans (final7 m c), (h c).2.2.1.trans (final8 m c),
      (h c).2.2.2.1.trans (final9 m c), (h c).2.2.2.2.1.trans (final10 m c), (h c).2.2.2.2.2⟩) (Cert.Kernel2Ideal.Value.run_blocks m ρ),
    (θ_run _ _ _).mono (fun _ h c => by
      obtain ⟨e0, e1, e2, e3, e4, e5⟩ := hag c
      obtain ⟨h0, h1, h2, h3, h4, h5⟩ := h c
      rw [val_main_v59_eq, e0, e1, e2] at h0
      rw [val_main_v60_eq, e0, e1, e3] at h1
      rw [val_main_v61_eq, e0, e1, e4, e5] at h2
      rw [val_main_v58_eq, e0, e1] at h3
      rw [val_main_v62_eq, e0, e1] at h4
      exact ⟨h0.trans (v59_eq _ _ _), h1.trans (v60_eq _ _ _), h2.trans (v61_eq _ _ _ _), h3.trans (v58_eq _ _), h4.trans (v62_eq _ _), h5⟩)
      (Cert.Reference2Ideal.Value.run m' ρ')⟩

/-! ## The second input projection -/

theorem reference3_frame : Cert.quiescent_Reference3Ideal := fun m ρ _ =>
  (θ_run _ _ _).mono (fun r h => ⟨fun c => (h c).2.2.2.2, sem_eq_zero_of_no_sems (by decide) r.2⟩) (Cert.Reference3Ideal.Value.run m ρ)

open Cert.Kernel3Ideal.Cd Cert.Reference3Ideal.Cd Cert.Reference3Ideal.Read in
/-- The four results of the kernel and of the reference are the same columns of the same product. -/
theorem value3 : Cert.algebraic_Kernel3Ideal_Reference3Ideal := fun m ρ m' ρ' _ hag =>
  ⟨fun c => cols 0 768 (by norm_num) (xa m c) (wa m c), fun c => cols 768 768 (by norm_num) (xa m c) (wa m c),
    fun c => cols 1536 768 (by norm_num) (xa m c) (wa m c), fun c => cols 2304 256 (by norm_num) (xa m c) (wa m c),
    (θ_run _ _ _).mono (fun _ h c => ⟨(h c).1.trans (final2 m c), (h c).2.1.trans (final3 m c), (h c).2.2.1.trans (final4 m c),
      (h c).2.2.2.1.trans (final5 m c), (h c).2.2.2.2⟩) (Cert.Kernel3Ideal.Value.run_blocks m ρ),
    (θ_run _ _ _).mono (fun _ h c => by
      obtain ⟨e0, e1⟩ := hag c
      obtain ⟨h0, h1, h2, h3, h4⟩ := h c
      rw [val_main_v1_eq, e0, e1] at h0
      rw [val_main_v3_eq, e0, e1] at h1
      rw [val_main_v5_eq, e0, e1] at h2
      rw [val_main_v6_eq, e0, e1] at h3
      exact ⟨h0.trans (v1_eq _ _), h1.trans (v3_eq _ _), h2.trans (v5_eq _ _), h3.trans (v6_eq _ _), h4⟩)
      (Cert.Reference3Ideal.Value.run m' ρ')⟩

/-! ## The experts -/

theorem kernel4Ideal_frame : Cert.quiescent_Kernel4Ideal := fun m ρ _ =>
  (θ_run Cert.Kernel4Ideal.defs _ _).mono (fun _ h => ⟨fun c => (h.1 c).2, h.2⟩) (Cert.Kernel4Ideal.Moe.run_ends (F := Ideal) m ρ)

/-- The two programs have one text, so the bit-exact frame is the run's statement at `Bits`. -/
theorem kernel4_text : Cert.quiescent_Kernel4 = ∀ (m : (ℓ : Loc Cert.Kernel4Ideal.nD Cert.Kernel4Ideal.τ Cert.Kernel4Ideal.sig) → Buf (Elt Bits) ℓ)
    (g : Dev Cert.Kernel4Ideal.nD → PrngReg), Cert.Pre_Kernel4 m →
    θ_run (Cert.Kernel4Ideal.defs (F := Bits)) (onTc (τ := Cert.Kernel4Ideal.τ) (Cert.Kernel4Ideal.main (F := Bits))) ⟨m, fun _ => 0, g⟩
    (fun r => (∀ c : Dev Cert.Kernel4Ideal.nD,
    r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
    ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
    ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
    ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
    ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
    ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
    ∧ r.2.sem = fun _ => 0) := by chain_rfl

theorem kernel4_frame : Cert.quiescent_Kernel4 := kernel4_text.mpr fun m ρ _ =>
  (θ_run Cert.Kernel4Ideal.defs _ _).mono (fun _ h => ⟨fun c => (h.1 c).2, h.2⟩) (Cert.Kernel4Ideal.Moe.run_ends (F := Bits) m ρ)

theorem reference4_frame : Cert.quiescent_Reference4Ideal := fun m ρ _ =>
  (θ_run _ _ _).mono (fun r h => ⟨fun c => (h c).2, sem_eq_zero_of_no_sems (by decide) r.2⟩) (Cert.Reference4Ideal.Value.run m ρ)

set_option maxRecDepth 16384 in
open Cert.Kernel4Ideal.Moe Cert.Reference4Ideal.Moe Cert.Reference4Ideal.Read in
/-- The kernel's result and the reference's are one function of the arguments: the tables the host code hands the kernel are
    the reference's own block numbers and count. -/
theorem value4 : Cert.algebraic_Kernel4Ideal_Reference4Ideal := fun m ρ m' ρ' _ hag =>
  ⟨fun c => moe (xa m c) (ebm m) (nu (nus m)) (wa m c) (ba m c) (wa' m c) (ba' m c),
    (θ_run Cert.Kernel4Ideal.defs _ _).mono (fun _ h c => ⟨(h.1 c).1.trans (final m c), (h.1 c).2⟩) (run_ends (F := Ideal) m ρ),
    (θ_run _ _ _).mono (fun _ h c => ⟨(h c).1.trans (by
      obtain ⟨e0, e1, e2, e3, e4, e5⟩ := hag c
      rw [val_main_v84_eq, e0, e1, e2, e3, e4, e5]
      exact meet m c), (h c).2⟩) (Cert.Reference4Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  kernel4_frame, kernel4Ideal_frame, reference4_frame,
  IdealRules.named_const.statement Cert.KernelIdeal.κ "scale" .f32 0x3E38AA3B#32 _ rfl, value, trivial, value2, trivial, value3, trivial, value4⟩

end Cert.Proof

end
